-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear_of_bin_edges [hPre_clear_of_bin_edges : Cert.Pre_clear_of_bin_edges.Facts] (m : (ℓ : Loc Cert.KernelIdeal.nD Cert.KernelIdeal.τ Cert.KernelIdeal.sig) → Buf (Elt Ideal) ℓ) : Prop :=
  ∀ c : Dev Cert.KernelIdeal.nD,
    (Cert.Pre_clear_of_bin_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_clear_of_bin_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_clear_of_bin_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_clear_of_bin_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_clear_of_bin_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_of_bin_edges [hPre_clear_of_bin_edges : Cert.Pre_clear_of_bin_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_of_bin_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_clear_of_bin_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_clear_of_bin_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_clear_of_bin_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_clear_of_bin_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_clear_of_bin_edges [hKernelIdeal : Cert.KernelIdeal.Facts] [hPre_clear_of_bin_edges : Cert.Pre_clear_of_bin_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear_of_bin_edges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_clear_of_bin_edges [hReferenceIdeal : Cert.ReferenceIdeal.Facts] [hPre_clear_of_bin_edges : Cert.Pre_clear_of_bin_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_of_bin_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_clear_of_bin_edges [hKernelIdeal : Cert.KernelIdeal.Facts] [hReferenceIdeal : Cert.ReferenceIdeal.Facts] [hPre_clear_of_bin_edges : Cert.Pre_clear_of_bin_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear_of_bin_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_clear_of_bin_edges : Cert.Pre_clear_of_bin_edges.Facts),
    quiescent_Kernel (hKernel := hKernel)
    ∧ quiescent_KernelIdeal (hKernelIdeal := hKernelIdeal)
    ∧ quiescent_KernelIdeal_pre_clear_of_bin_edges (hKernelIdeal := hKernelIdeal) (hPre_clear_of_bin_edges := hPre_clear_of_bin_edges)
    ∧ quiescent_ReferenceIdeal (hReferenceIdeal := hReferenceIdeal)
    ∧ quiescent_ReferenceIdeal_pre_clear_of_bin_edges (hReferenceIdeal := hReferenceIdeal) (hPre_clear_of_bin_edges := hPre_clear_of_bin_edges)
    ∧ preserves_Kernel_KernelIdeal
    ∧ algebraic_KernelIdeal_ReferenceIdeal_pre_clear_of_bin_edges (hKernelIdeal := hKernelIdeal) (hReferenceIdeal := hReferenceIdeal) (hPre_clear_of_bin_edges := hPre_clear_of_bin_edges)
-- ==== Pre_clear_of_bin_edges.lean ====
abbrev S64x1x224x224 : Shape := ⟨4, ![64, 1, 224, 224]⟩
abbrev S1x1x3x3 : Shape := ⟨4, ![1, 1, 3, 3]⟩
abbrev S16x16 : Shape := ⟨2, ![16, 16]⟩
abbrev S3x3 : Shape := ⟨2, ![3, 3]⟩
abbrev S64x224x224 : Shape := ⟨3, ![64, 224, 224]⟩
abbrev S_ : Shape := ⟨0, ![]⟩
abbrev S64x1x224 : Shape := ⟨3, ![64, 1, 224]⟩
abbrev S64x225x224 : Shape := ⟨3, ![64, 225, 224]⟩
abbrev S64x226x224 : Shape := ⟨3, ![64, 226, 224]⟩
abbrev S64x226x1 : Shape := ⟨3, ![64, 226, 1]⟩
abbrev S64x226x225 : Shape := ⟨3, ![64, 226, 225]⟩
abbrev S64x226x226 : Shape := ⟨3, ![64, 226, 226]⟩
abbrev S1x1x1x1 : Shape := ⟨4, ![1, 1, 1, 1]⟩

class Facts : Prop where
  shapeCasts_S64x1x224x224_S64x224x224 : S64x1x224x224.ShapeCasts S64x224x224
  slices_S64x224x224_S64x1x224_0_0_0 : S64x224x224.Slices ![0, 0, 0] S64x1x224
  slices_S64x224x224_S64x1x224_0_1_0 : S64x224x224.Slices ![0, 1, 0] S64x1x224
  concatenates_S64x1x224_S64x224x224_S64x225x224_d1 : Shape.Concatenates [S64x1x224, S64x224x224] S64x225x224 1
  slices_S64x225x224_S64x1x224_0_224_0 : S64x225x224.Slices ![0, 224, 0] S64x1x224
  slices_S64x225x224_S64x1x224_0_223_0 : S64x225x224.Slices ![0, 223, 0] S64x1x224
  concatenates_S64x225x224_S64x1x224_S64x226x224_d1 : Shape.Concatenates [S64x225x224, S64x1x224] S64x226x224 1
  slices_S64x226x224_S64x226x1_0_0_0 : S64x226x224.Slices ![0, 0, 0] S64x226x1
  slices_S64x226x224_S64x226x1_0_0_1 : S64x226x224.Slices ![0, 0, 1] S64x226x1
  concatenates_S64x226x1_S64x226x224_S64x226x225_d2 : Shape.Concatenates [S64x226x1, S64x226x224] S64x226x225 2
  slices_S64x226x225_S64x226x1_0_0_224 : S64x226x225.Slices ![0, 0, 224] S64x226x1
  slices_S64x226x225_S64x226x1_0_0_223 : S64x226x225.Slices ![0, 0, 223] S64x226x1
  concatenates_S64x226x225_S64x226x1_S64x226x226_d2 : Shape.Concatenates [S64x226x225, S64x226x1] S64x226x226 2
  bcast_S_S64x224x224 : S_.BroadcastsInDim S64x224x224 (![] : Fin 0 → Fin S64x224x224.rank)
  slices_S64x226x226_S64x224x224_0_0_0 : S64x226x226.Slices ![0, 0, 0] S64x224x224
  slices_S1x1x3x3_S1x1x1x1_0_0_0_0 : S1x1x3x3.Slices ![0, 0, 0, 0] S1x1x1x1
  shapeCasts_S1x1x1x1_S_ : S1x1x1x1.ShapeCasts S_
  slices_S64x226x226_S64x224x224_0_0_1 : S64x226x226.Slices ![0, 0, 1] S64x224x224
  slices_S1x1x3x3_S1x1x1x1_0_0_0_1 : S1x1x3x3.Slices ![0, 0, 0, 1] S1x1x1x1
  slices_S64x226x226_S64x224x224_0_0_2 : S64x226x226.Slices ![0, 0, 2] S64x224x224
  slices_S1x1x3x3_S1x1x1x1_0_0_0_2 : S1x1x3x3.Slices ![0, 0, 0, 2] S1x1x1x1
  slices_S64x226x226_S64x224x224_0_1_0 : S64x226x226.Slices ![0, 1, 0] S64x224x224
  slices_S1x1x3x3_S1x1x1x1_0_0_1_0 : S1x1x3x3.Slices ![0, 0, 1, 0] S1x1x1x1
  slices_S64x226x226_S64x224x224_0_1_1 : S64x226x226.Slices ![0, 1, 1] S64x224x224
  slices_S1x1x3x3_S1x1x1x1_0_0_1_1 : S1x1x3x3.Slices ![0, 0, 1, 1] S1x1x1x1
  slices_S64x226x226_S64x224x224_0_1_2 : S64x226x226.Slices ![0, 1, 2] S64x224x224
  slices_S1x1x3x3_S1x1x1x1_0_0_1_2 : S1x1x3x3.Slices ![0, 0, 1, 2] S1x1x1x1
  slices_S64x226x226_S64x224x224_0_2_0 : S64x226x226.Slices ![0, 2, 0] S64x224x224
  slices_S1x1x3x3_S1x1x1x1_0_0_2_0 : S1x1x3x3.Slices ![0, 0, 2, 0] S1x1x1x1
  slices_S64x226x226_S64x224x224_0_2_1 : S64x226x226.Slices ![0, 2, 1] S64x224x224
  slices_S1x1x3x3_S1x1x1x1_0_0_2_1 : S1x1x3x3.Slices ![0, 0, 2, 1] S1x1x1x1
  slices_S64x226x226_S64x224x224_0_2_2 : S64x226x226.Slices ![0, 2, 2] S64x224x224
  slices_S1x1x3x3_S1x1x1x1_0_0_2_2 : S1x1x3x3.Slices ![0, 0, 2, 2] S1x1x1x1
  bcast_S_S64x1x224x224 : S_.BroadcastsInDim S64x1x224x224 (![] : Fin 0 → Fin S64x1x224x224.rank)
  bcast_S_S16x16 : S_.BroadcastsInDim S16x16 (![] : Fin 0 → Fin S16x16.rank)
  shapeCasts_S1x1x3x3_S3x3 : S1x1x3x3.ShapeCasts S3x3
  transposes_S3x3_S3x3_1_0 : S3x3.Transposes [1, 0] S3x3

variable [Facts]

noncomputable abbrev lit0 : Fin 9 → BitVec 32 := fun
  | 0 => 0x3F800000#32 | 1 => 0x00000000#32 | 2 => 0xBF800000#32 | 3 => 0x40000000#32 | 4 => 0x00000000#32 | 5 => 0xC0000000#32 | 6 => 0x3F800000#32 | 7 => 0x00000000#32
  | 8 => 0xBF800000#32
  | _ => 0#32

def fn_flip {F : FTy → Type} [FloatOps F] (arg0 : FVec F S64x1x224 .f32) : FVec F S64x1x224 .f32 :=
  let v0 : FVec F S64x1x224 .f32 := Host.reverse [1] arg0
  v0

def fn_flip_0 {F : FTy → Type} [FloatOps F] (arg0 : FVec F S64x226x1 .f32) : FVec F S64x226x1 .f32 :=
  let v0 : FVec F S64x226x1 .f32 := Host.reverse [2] arg0
  v0

def fn_pad {F : FTy → Type} [FloatOps F] (arg0 : FVec F S64x224x224 .f32) (arg1 : IVec S_ 32) : FVec F S64x226x226 .f32 :=
  let v0 : FVec F S64x1x224 .f32 := (extractStridedSlice S64x1x224 ![0, 0, 0] · slices_S64x224x224_S64x1x224_0_0_0) arg0
  let v1 : FVec F S64x1x224 .f32 := (extractStridedSlice S64x1x224 ![0, 1, 0] · slices_S64x224x224_S64x1x224_0_1_0) arg0
  let v2 : FVec F S64x1x224 .f32 := fn_flip (F := F) v1
  let v3 : FVec F S64x225x224 .f32 := (fun a b => concatenate S64x225x224 1 [⟨S64x1x224, a⟩, ⟨S64x224x224, b⟩] concatenates_S64x1x224_S64x224x224_S64x225x224_d1) v2 arg0
  let v4 : FVec F S64x1x224 .f32 := (extractStridedSlice S64x1x224 ![0, 224, 0] · slices_S64x225x224_S64x1x224_0_224_0) v3
  let v5 : FVec F S64x1x224 .f32 := (extractStridedSlice S64x1x224 ![0, 223, 0] · slices_S64x225x224_S64x1x224_0_223_0) v3
  let v6 : FVec F S64x1x224 .f32 := fn_flip (F := F) v5
  let v7 : FVec F S64x226x224 .f32 := (fun a b => concatenate S64x226x224 1 [⟨S64x225x224, a⟩, ⟨S64x1x224, b⟩] concatenates_S64x225x224_S64x1x224_S64x226x224_d1) v3 v6
  let v8 : FVec F S64x226x1 .f32 := (extractStridedSlice S64x226x1 ![0, 0, 0] · slices_S64x226x224_S64x226x1_0_0_0) v7
  let v9 : FVec F S64x226x1 .f32 := (extractStridedSlice S64x226x1 ![0, 0, 1] · slices_S64x226x224_S64x226x1_0_0_1) v7
  let v10 : FVec F S64x226x1 .f32 := fn_flip_0 (F := F) v9
  let v11 : FVec F S64x226x225 .f32 := (fun a b => concatenate S64x226x225 2 [⟨S64x226x1, a⟩, ⟨S64x226x224, b⟩] concatenates_S64x226x1_S64x226x224_S64x226x225_d2) v10 v7
  let v12 : FVec F S64x226x1 .f32 := (extractStridedSlice S64x226x1 ![0, 0, 224] · slices_S64x226x225_S64x226x1_0_0_224) v11
  let v13 : FVec F S64x226x1 .f32 := (extractStridedSlice S64x226x1 ![0, 0, 223] · slices_S64x226x225_S64x226x1_0_0_223) v11
  let v14 : FVec F S64x226x1 .f32 := fn_flip_0 (F := F) v13
  let v15 : FVec F S64x226x226 .f32 := (fun a b => concatenate S64x226x226 2 [⟨S64x226x225, a⟩, ⟨S64x226x1, b⟩] concatenates_S64x226x225_S64x226x1_S64x226x226_d2) v11 v14
  v15

def fn_part7 {F : FTy → Type} [FloatOps F] (main_arg0 : FVec F S64x1x224x224 .f32) (main_arg1 : FVec F S1x1x3x3 .f32) (main_arg2 : FVec F S1x1x3x3 .f32) (main_arg3 : FVec F S16x16 .f32) (main_cst : FVec F S3x3 .f32) (main_v109 : FVec F S64x224x224 .f32) (main_v146 : IVec S64x224x224 1) (main_v148 : FVec F S64x224x224 .f32) (main_v150 : FVec F S64x224x224 .f32) (main_v153 : IVec S64x224x224 1) : IVec S64x1x224x224 1 × IVec S16x16 1 × IVec S3x3 1 × IVec S3x3 1 × IVec S64x224x224 1 :=
  let main_v154 : IVec S64x224x224 1 := andi main_v146 main_v153
  let main_v155 : FVec F S64x224x224 .f32 := addf main_v148 main_v150
  let main_v156 : FVec F S64x224x224 .f32 := Host.absf main_v155
  let main_v157 : IVec S64x224x224 1 := cmpf .oge main_v156 main_v109
  let main_v158 : IVec S64x224x224 1 := andi main_v154 main_v157
  let main_v159 : FVec F S64x1x224x224 .f32 := Host.absf main_arg0
  let main_cst_12 : FVec F S_ .f32 := constant S_ .f32 0x7F800000#32
  let main_v160 : FVec F S64x1x224x224 .f32 := broadcastInDim S64x1x224x224 ![] bcast_S_S64x1x224x224 main_cst_12
  let main_v161 : IVec S64x1x224x224 1 := cmpf .olt main_v159 main_v160
  let main_v162 : FVec F S16x16 .f32 := Host.absf main_arg3
  let main_cst_13 : FVec F S_ .f32 := constant S_ .f32 0x7F800000#32
  let main_v163 : FVec F S16x16 .f32 := broadcastInDim S16x16 ![] bcast_S_S16x16 main_cst_13
  let main_v164 : IVec S16x16 1 := cmpf .olt main_v162 main_v163
  let main_v165 : FVec F S3x3 .f32 := shapeCast S3x3 main_arg1 shapeCasts_S1x1x3x3_S3x3
  let main_v166 : IVec S3x3 1 := cmpf .oeq main_v165 main_cst
  let main_v167 : FVec F S3x3 .f32 := shapeCast S3x3 main_arg2 shapeCasts_S1x1x3x3_S3x3
  let main_v168 : FVec F S3x3 .f32 := (transpose S3x3 [1, 0] · transposes_S3x3_S3x3_1_0) main_cst
  let main_v169 : IVec S3x3 1 := cmpf .oeq main_v167 main_v168
  (main_v161, main_v164, main_v166, main_v169, main_v158)

def fn_part6 {F : FTy → Type} [FloatOps F] (main_arg0 : FVec F S64x1x224x224 .f32) (main_arg1 : FVec F S1x1x3x3 .f32) (main_arg2 : FVec F S1x1x3x3 .f32) (main_arg3 : FVec F S16x16 .f32) (main_cst : FVec F S3x3 .f32) (main_v99 : FVec F S64x224x224 .f32) (main_v104 : FVec F S64x224x224 .f32) (main_v109 : FVec F S64x224x224 .f32) (main_v130 : IVec S64x224x224 1) (main_v133 : IVec S64x224x224 1) : IVec S64x1x224x224 1 × IVec S16x16 1 × IVec S3x3 1 × IVec S3x3 1 × IVec S64x224x224 1 :=
  let main_v134 : IVec S64x224x224 1 := andi main_v130 main_v133
  let main_cst_8 : FVec F S_ .f32 := constant S_ .f32 0x3F000000#32
  let main_v135 : FVec F S64x224x224 .f32 := broadcastInDim S64x224x224 ![] bcast_S_S64x224x224 main_cst_8
  let main_v136 : FVec F S64x224x224 .f32 := mulf main_v99 main_v135
  let main_cst_9 : FVec F S_ .f32 := constant S_ .f32 0x3F5DB3D7#32
  let main_v137 : FVec F S64x224x224 .f32 := broadcastInDim S64x224x224 ![] bcast_S_S64x224x224 main_cst_9
  let main_v138 : FVec F S64x224x224 .f32 := mulf main_v104 main_v137
  let main_v139 : FVec F S64x224x224 .f32 := subf main_v136 main_v138
  let main_v140 : FVec F S64x224x224 .f32 := Host.absf main_v139
  let main_v141 : IVec S64x224x224 1 := cmpf .oge main_v140 main_v109
  let main_v142 : IVec S64x224x224 1 := andi main_v134 main_v141
  let main_v143 : FVec F S64x224x224 .f32 := addf main_v136 main_v138
  let main_v144 : FVec F S64x224x224 .f32 := Host.absf main_v143
  let main_v145 : IVec S64x224x224 1 := cmpf .oge main_v144 main_v109
  let main_v146 : IVec S64x224x224 1 := andi main_v142 main_v145
  let main_cst_10 : FVec F S_ .f32 := constant S_ .f32 0x3E31D0D4#32
  let main_v147 : FVec F S64x224x224 .f32 := broadcastInDim S64x224x224 ![] bcast_S_S64x224x224 main_cst_10
  let main_v148 : FVec F S64x224x224 .f32 := mulf main_v99 main_v147
  let main_cst_11 : FVec F S_ .f32 := constant S_ .f32 0x3F7C1C5C#32
  let main_v149 : FVec F S64x224x224 .f32 := broadcastInDim S64x224x224 ![] bcast_S_S64x224x224 main_cst_11
  let main_v150 : FVec F S64x224x224 .f32 := mulf main_v104 main_v149
  let main_v151 : FVec F S64x224x224 .f32 := subf main_v148 main_v150
  let main_v152 : FVec F S64x224x224 .f32 := Host.absf main_v151
  let main_v153 : IVec S64x224x224 1 := cmpf .oge main_v152 main_v109
  fn_part7 (F := F) main_arg0 main_arg1 main_arg2 main_arg3 main_cst main_v109 main_v146 main_v148 main_v150 main_v153

def fn_part5 {F : FTy → Type} [FloatOps F] (main_arg0 : FVec F S64x1x224x224 .f32) (main_arg1 : FVec F S1x1x3x3 .f32) (main_arg2 : FVec F S1x1x3x3 .f32) (main_arg3 : FVec F S16x16 .f32) (main_cst : FVec F S3x3 .f32) (main_v99 : FVec F S64x224x224 .f32) (main_v104 : FVec F S64x224x224 .f32) (main_v109 : FVec F S64x224x224 .f32) (main_v111 : FVec F S64x224x224 .f32) (main_v112 : FVec F S64x224x224 .f32) : IVec S64x1x224x224 1 × IVec S16x16 1 × IVec S3x3 1 × IVec S3x3 1 × IVec S64x224x224 1 :=
  let main_v113 : FVec F S64x224x224 .f32 := mulf main_v104 main_v112
  let main_v114 : FVec F S64x224x224 .f32 := subf main_v111 main_v113
  let main_v115 : FVec F S64x224x224 .f32 := Host.absf main_v114
  let main_v116 : IVec S64x224x224 1 := cmpf .oge main_v115 main_v109
  let main_c_5 : IVec S_ 1 := constantI S_ 1 1#1
  let main_v117 : IVec S64x224x224 1 := broadcastInDim S64x224x224 ![] bcast_S_S64x224x224 main_c_5
  let main_v118 : IVec S64x224x224 1 := andi main_v117 main_v116
  let main_v119 : FVec F S64x224x224 .f32 := addf main_v111 main_v113
  let main_v120 : FVec F S64x224x224 .f32 := Host.absf main_v119
  let main_v121 : IVec S64x224x224 1 := cmpf .oge main_v120 main_v109
  let main_v122 : IVec S64x224x224 1 := andi main_v118 main_v121
  let main_cst_6 : FVec F S_ .f32 := constant S_ .f32 0x3F441B7D#32
  let main_v123 : FVec F S64x224x224 .f32 := broadcastInDim S64x224x224 ![] bcast_S_S64x224x224 main_cst_6
  let main_v124 : FVec F S64x224x224 .f32 := mulf main_v99 main_v123
  let main_cst_7 : FVec F S_ .f32 := constant S_ .f32 0x3F248DBB#32
  let main_v125 : FVec F S64x224x224 .f32 := broadcastInDim S64x224x224 ![] bcast_S_S64x224x224 main_cst_7
  let main_v126 : FVec F S64x224x224 .f32 := mulf main_v104 main_v125
  let main_v127 : FVec F S64x224x224 .f32 := subf main_v124 main_v126
  let main_v128 : FVec F S64x224x224 .f32 := Host.absf main_v127
  let main_v129 : IVec S64x224x224 1 := cmpf .oge main_v128 main_v109
  let main_v130 : IVec S64x224x224 1 := andi main_v122 main_v129
  let main_v131 : FVec F S64x224x224 .f32 := addf main_v124 main_v126
  let main_v132 : FVec F S64x224x224 .f32 := Host.absf main_v131
  let main_v133 : IVec S64x224x224 1 := cmpf .oge main_v132 main_v109
  fn_part6 (F := F) main_arg0 main_arg1 main_arg2 main_arg3 main_cst main_v99 main_v104 main_v109 main_v130 main_v133

def fn_part4 {F : FTy → Type} [FloatOps F] (main_arg0 : FVec F S64x1x224x224 .f32) (main_arg1 : FVec F S1x1x3x3 .f32) (main_arg2 : FVec F S1x1x3x3 .f32) (main_arg3 : FVec F S16x16 .f32) (main_cst : FVec F S3x3 .f32) (main_v1 : FVec F S64x226x226 .f32) (main_v82 : FVec F S64x224x224 .f32) (main_v83 : FVec F S64x224x224 .f32) (main_v88 : FVec F S64x224x224 .f32) (main_v91 : FVec F S64x224x224 .f32) : IVec S64x1x224x224 1 × IVec S16x16 1 × IVec S3x3 1 × IVec S3x3 1 × IVec S64x224x224 1 :=
  let main_v92 : FVec F S64x224x224 .f32 := mulf main_v91 main_v83
  let main_v93 : FVec F S64x224x224 .f32 := addf main_v82 main_v92
  let main_v94 : FVec F S64x224x224 .f32 := (extractStridedSlice S64x224x224 ![0, 2, 2] · slices_S64x226x226_S64x224x224_0_2_2) main_v1
  let main_v95 : FVec F S1x1x1x1 .f32 := (extractStridedSlice S1x1x1x1 ![0, 0, 2, 2] · slices_S1x1x3x3_S1x1x1x1_0_0_2_2) main_arg1
  let main_v96 : FVec F S_ .f32 := shapeCast S_ main_v95 shapeCasts_S1x1x1x1_S_
  let main_v97 : FVec F S64x224x224 .f32 := broadcastInDim S64x224x224 ![] bcast_S_S64x224x224 main_v96
  let main_v98 : FVec F S64x224x224 .f32 := mulf main_v97 main_v94
  let main_v99 : FVec F S64x224x224 .f32 := addf main_v88 main_v98
  let main_v100 : FVec F S1x1x1x1 .f32 := (extractStridedSlice S1x1x1x1 ![0, 0, 2, 2] · slices_S1x1x3x3_S1x1x1x1_0_0_2_2) main_arg2
  let main_v101 : FVec F S_ .f32 := shapeCast S_ main_v100 shapeCasts_S1x1x1x1_S_
  let main_v102 : FVec F S64x224x224 .f32 := broadcastInDim S64x224x224 ![] bcast_S_S64x224x224 main_v101
  let main_v103 : FVec F S64x224x224 .f32 := mulf main_v102 main_v94
  let main_v104 : FVec F S64x224x224 .f32 := addf main_v93 main_v103
  let main_v105 : FVec F S64x224x224 .f32 := Host.absf main_v99
  let main_v106 : FVec F S64x224x224 .f32 := Host.absf main_v104
  let main_v107 : FVec F S64x224x224 .f32 := addf main_v105 main_v106
  let main_cst_2 : FVec F S_ .f32 := constant S_ .f32 0x33800000#32
  let main_v108 : FVec F S64x224x224 .f32 := broadcastInDim S64x224x224 ![] bcast_S_S64x224x224 main_cst_2
  let main_v109 : FVec F S64x224x224 .f32 := mulf main_v107 main_v108
  let main_cst_3 : FVec F S_ .f32 := constant S_ .f32 0x3F708FB2#32
  let main_v110 : FVec F S64x224x224 .f32 := broadcastInDim S64x224x224 ![] bcast_S_S64x224x224 main_cst_3
  let main_v111 : FVec F S64x224x224 .f32 := mulf main_v99 main_v110
  let main_cst_4 : FVec F S_ .f32 := constant S_ .f32 0x3EAF1D44#32
  let main_v112 : FVec F S64x224x224 .f32 := broadcastInDim S64x224x224 ![] bcast_S_S64x224x224 main_cst_4
  fn_part5 (F := F) main_arg0 main_arg1 main_arg2 main_arg3 main_cst main_v99 main_v104 main_v109 main_v111 main_v112

def fn_part3 {F : FTy → Type} [FloatOps F] (main_arg0 : FVec F S64x1x224x224 .f32) (main_arg1 : FVec F S1x1x3x3 .f32) (main_arg2 : FVec F S1x1x3x3 .f32) (main_arg3 : FVec F S16x16 .f32) (main_cst : FVec F S3x3 .f32) (main_v1 : FVec F S64x226x226 .f32) (main_v60 : FVec F S64x224x224 .f32) (main_v61 : FVec F S64x224x224 .f32) (main_v66 : FVec F S64x224x224 .f32) (main_v67 : FVec F S1x1x1x1 .f32) : IVec S64x1x224x224 1 × IVec S16x16 1 × IVec S3x3 1 × IVec S3x3 1 × IVec S64x224x224 1 :=
  let main_v68 : FVec F S_ .f32 := shapeCast S_ main_v67 shapeCasts_S1x1x1x1_S_
  let main_v69 : FVec F S64x224x224 .f32 := broadcastInDim S64x224x224 ![] bcast_S_S64x224x224 main_v68
  let main_v70 : FVec F S64x224x224 .f32 := mulf main_v69 main_v61
  let main_v71 : FVec F S64x224x224 .f32 := addf main_v60 main_v70
  let main_v72 : FVec F S64x224x224 .f32 := (extractStridedSlice S64x224x224 ![0, 2, 0] · slices_S64x226x226_S64x224x224_0_2_0) main_v1
  let main_v73 : FVec F S1x1x1x1 .f32 := (extractStridedSlice S1x1x1x1 ![0, 0, 2, 0] · slices_S1x1x3x3_S1x1x1x1_0_0_2_0) main_arg1
  let main_v74 : FVec F S_ .f32 := shapeCast S_ main_v73 shapeCasts_S1x1x1x1_S_
  let main_v75 : FVec F S64x224x224 .f32 := broadcastInDim S64x224x224 ![] bcast_S_S64x224x224 main_v74
  let main_v76 : FVec F S64x224x224 .f32 := mulf main_v75 main_v72
  let main_v77 : FVec F S64x224x224 .f32 := addf main_v66 main_v76
  let main_v78 : FVec F S1x1x1x1 .f32 := (extractStridedSlice S1x1x1x1 ![0, 0, 2, 0] · slices_S1x1x3x3_S1x1x1x1_0_0_2_0) main_arg2
  let main_v79 : FVec F S_ .f32 := shapeCast S_ main_v78 shapeCasts_S1x1x1x1_S_
  let main_v80 : FVec F S64x224x224 .f32 := broadcastInDim S64x224x224 ![] bcast_S_S64x224x224 main_v79
  let main_v81 : FVec F S64x224x224 .f32 := mulf main_v80 main_v72
  let main_v82 : FVec F S64x224x224 .f32 := addf main_v71 main_v81
  let main_v83 : FVec F S64x224x224 .f32 := (extractStridedSlice S64x224x224 ![0, 2, 1] · slices_S64x226x226_S64x224x224_0_2_1) main_v1
  let main_v84 : FVec F S1x1x1x1 .f32 := (extractStridedSlice S1x1x1x1 ![0, 0, 2, 1] · slices_S1x1x3x3_S1x1x1x1_0_0_2_1) main_arg1
  let main_v85 : FVec F S_ .f32 := shapeCast S_ main_v84 shapeCasts_S1x1x1x1_S_
  let main_v86 : FVec F S64x224x224 .f32 := broadcastInDim S64x224x224 ![] bcast_S_S64x224x224 main_v85
  let main_v87 : FVec F S64x224x224 .f32 := mulf main_v86 main_v83
  let main_v88 : FVec F S64x224x224 .f32 := addf main_v77 main_v87
  let main_v89 : FVec F S1x1x1x1 .f32 := (extractStridedSlice S1x1x1x1 ![0, 0, 2, 1] · slices_S1x1x3x3_S1x1x1x1_0_0_2_1) main_arg2
  let main_v90 : FVec F S_ .f32 := shapeCast S_ main_v89 shapeCasts_S1x1x1x1_S_
  let main_v91 : FVec F S64x224x224 .f32 := broadcastInDim S64x224x224 ![] bcast_S_S64x224x224 main_v90
  fn_part4 (F := F) main_arg0 main_arg1 main_arg2 main_arg3 main_cst main_v1 main_v82 main_v83 main_v88 main_v91

def fn_part2 {F : FTy → Type} [FloatOps F] (main_arg0 : FVec F S64x1x224x224 .f32) (main_arg1 : FVec F S1x1x3x3 .f32) (main_arg2 : FVec F S1x1x3x3 .f32) (main_arg3 : FVec F S16x16 .f32) (main_cst : FVec F S3x3 .f32) (main_v1 : FVec F S64x226x226 .f32) (main_v33 : FVec F S64x224x224 .f32) (main_v38 : FVec F S64x224x224 .f32) (main_v39 : FVec F S64x224x224 .f32) (main_v43 : FVec F S64x224x224 .f32) : IVec S64x1x224x224 1 × IVec S16x16 1 × IVec S3x3 1 × IVec S3x3 1 × IVec S64x224x224 1 :=
  let main_v44 : FVec F S64x224x224 .f32 := addf main_v33 main_v43
  let main_v45 : FVec F S1x1x1x1 .f32 := (extractStridedSlice S1x1x1x1 ![0, 0, 1, 0] · slices_S1x1x3x3_S1x1x1x1_0_0_1_0) main_arg2
  let main_v46 : FVec F S_ .f32 := shapeCast S_ main_v45 shapeCasts_S1x1x1x1_S_
  let main_v47 : FVec F S64x224x224 .f32 := broadcastInDim S64x224x224 ![] bcast_S_S64x224x224 main_v46
  let main_v48 : FVec F S64x224x224 .f32 := mulf main_v47 main_v39
  let main_v49 : FVec F S64x224x224 .f32 := addf main_v38 main_v48
  let main_v50 : FVec F S64x224x224 .f32 := (extractStridedSlice S64x224x224 ![0, 1, 1] · slices_S64x226x226_S64x224x224_0_1_1) main_v1
  let main_v51 : FVec F S1x1x1x1 .f32 := (extractStridedSlice S1x1x1x1 ![0, 0, 1, 1] · slices_S1x1x3x3_S1x1x1x1_0_0_1_1) main_arg1
  let main_v52 : FVec F S_ .f32 := shapeCast S_ main_v51 shapeCasts_S1x1x1x1_S_
  let main_v53 : FVec F S64x224x224 .f32 := broadcastInDim S64x224x224 ![] bcast_S_S64x224x224 main_v52
  let main_v54 : FVec F S64x224x224 .f32 := mulf main_v53 main_v50
  let main_v55 : FVec F S64x224x224 .f32 := addf main_v44 main_v54
  let main_v56 : FVec F S1x1x1x1 .f32 := (extractStridedSlice S1x1x1x1 ![0, 0, 1, 1] · slices_S1x1x3x3_S1x1x1x1_0_0_1_1) main_arg2
  let main_v57 : FVec F S_ .f32 := shapeCast S_ main_v56 shapeCasts_S1x1x1x1_S_
  let main_v58 : FVec F S64x224x224 .f32 := broadcastInDim S64x224x224 ![] bcast_S_S64x224x224 main_v57
  let main_v59 : FVec F S64x224x224 .f32 := mulf main_v58 main_v50
  let main_v60 : FVec F S64x224x224 .f32 := addf main_v49 main_v59
  let main_v61 : FVec F S64x224x224 .f32 := (extractStridedSlice S64x224x224 ![0, 1, 2] · slices_S64x226x226_S64x224x224_0_1_2) main_v1
  let main_v62 : FVec F S1x1x1x1 .f32 := (extractStridedSlice S1x1x1x1 ![0, 0, 1, 2] · slices_S1x1x3x3_S1x1x1x1_0_0_1_2) main_arg1
  let main_v63 : FVec F S_ .f32 := shapeCast S_ main_v62 shapeCasts_S1x1x1x1_S_
  let main_v64 : FVec F S64x224x224 .f32 := broadcastInDim S64x224x224 ![] bcast_S_S64x224x224 main_v63
  let main_v65 : FVec F S64x224x224 .f32 := mulf main_v64 main_v61
  let main_v66 : FVec F S64x224x224 .f32 := addf main_v55 main_v65
  let main_v67 : FVec F S1x1x1x1 .f32 := (extractStridedSlice S1x1x1x1 ![0, 0, 1, 2] · slices_S1x1x3x3_S1x1x1x1_0_0_1_2) main_arg2
  fn_part3 (F := F) main_arg0 main_arg1 main_arg2 main_arg3 main_cst main_v1 main_v60 main_v61 main_v66 main_v67

def fn_part1 {F : FTy → Type} [FloatOps F] (main_arg0 : FVec F S64x1x224x224 .f32) (main_arg1 : FVec F S1x1x3x3 .f32) (main_arg2 : FVec F S1x1x3x3 .f32) (main_arg3 : FVec F S16x16 .f32) (main_cst : FVec F S3x3 .f32) (main_v1 : FVec F S64x226x226 .f32) (main_v11 : FVec F S64x224x224 .f32) (main_v16 : FVec F S64x224x224 .f32) (main_v17 : FVec F S64x224x224 .f32) (main_v19 : FVec F S_ .f32) : IVec S64x1x224x224 1 × IVec S16x16 1 × IVec S3x3 1 × IVec S3x3 1 × IVec S64x224x224 1 :=
  let main_v20 : FVec F S64x224x224 .f32 := broadcastInDim S64x224x224 ![] bcast_S_S64x224x224 main_v19
  let main_v21 : FVec F S64x224x224 .f32 := mulf main_v20 main_v17
  let main_v22 : FVec F S64x224x224 .f32 := addf main_v11 main_v21
  let main_v23 : FVec F S1x1x1x1 .f32 := (extractStridedSlice S1x1x1x1 ![0, 0, 0, 1] · slices_S1x1x3x3_S1x1x1x1_0_0_0_1) main_arg2
  let main_v24 : FVec F S_ .f32 := shapeCast S_ main_v23 shapeCasts_S1x1x1x1_S_
  let main_v25 : FVec F S64x224x224 .f32 := broadcastInDim S64x224x224 ![] bcast_S_S64x224x224 main_v24
  let main_v26 : FVec F S64x224x224 .f32 := mulf main_v25 main_v17
  let main_v27 : FVec F S64x224x224 .f32 := addf main_v16 main_v26
  let main_v28 : FVec F S64x224x224 .f32 := (extractStridedSlice S64x224x224 ![0, 0, 2] · slices_S64x226x226_S64x224x224_0_0_2) main_v1
  let main_v29 : FVec F S1x1x1x1 .f32 := (extractStridedSlice S1x1x1x1 ![0, 0, 0, 2] · slices_S1x1x3x3_S1x1x1x1_0_0_0_2) main_arg1
  let main_v30 : FVec F S_ .f32 := shapeCast S_ main_v29 shapeCasts_S1x1x1x1_S_
  let main_v31 : FVec F S64x224x224 .f32 := broadcastInDim S64x224x224 ![] bcast_S_S64x224x224 main_v30
  let main_v32 : FVec F S64x224x224 .f32 := mulf main_v31 main_v28
  let main_v33 : FVec F S64x224x224 .f32 := addf main_v22 main_v32
  let main_v34 : FVec F S1x1x1x1 .f32 := (extractStridedSlice S1x1x1x1 ![0, 0, 0, 2] · slices_S1x1x3x3_S1x1x1x1_0_0_0_2) main_arg2
  let main_v35 : FVec F S_ .f32 := shapeCast S_ main_v34 shapeCasts_S1x1x1x1_S_
  let main_v36 : FVec F S64x224x224 .f32 := broadcastInDim S64x224x224 ![] bcast_S_S64x224x224 main_v35
  let main_v37 : FVec F S64x224x224 .f32 := mulf main_v36 main_v28
  let main_v38 : FVec F S64x224x224 .f32 := addf main_v27 main_v37
  let main_v39 : FVec F S64x224x224 .f32 := (extractStridedSlice S64x224x224 ![0, 1, 0] · slices_S64x226x226_S64x224x224_0_1_0) main_v1
  let main_v40 : FVec F S1x1x1x1 .f32 := (extractStridedSlice S1x1x1x1 ![0, 0, 1, 0] · slices_S1x1x3x3_S1x1x1x1_0_0_1_0) main_arg1
  let main_v41 : FVec F S_ .f32 := shapeCast S_ main_v40 shapeCasts_S1x1x1x1_S_
  let main_v42 : FVec F S64x224x224 .f32 := broadcastInDim S64x224x224 ![] bcast_S_S64x224x224 main_v41
  let main_v43 : FVec F S64x224x224 .f32 := mulf main_v42 main_v39
  fn_part2 (F := F) main_arg0 main_arg1 main_arg2 main_arg3 main_cst main_v1 main_v33 main_v38 main_v39 main_v43

def fn {F : FTy → Type} [FloatOps F] (main_arg0 : FVec F S64x1x224x224 .f32) (main_arg1 : FVec F S1x1x3x3 .f32) (main_arg2 : FVec F S1x1x3x3 .f32) (main_arg3 : FVec F S16x16 .f32) : IVec S64x1x224x224 1 × IVec S16x16 1 × IVec S3x3 1 × IVec S3x3 1 × IVec S64x224x224 1 :=
  let main_cst : FVec F S3x3 .f32 := fun i => FloatOps.ofBits .f32 (lit0 (S3x3.rowMajor i))
  let main_v0 : FVec F S64x224x224 .f32 := shapeCast S64x224x224 main_arg0 shapeCasts_S64x1x224x224_S64x224x224
  let main_c : IVec S_ 32 := constantI S_ 32 0#32
  let main_v1 : FVec F S64x226x226 .f32 := fn_pad (F := F) main_v0 main_c
  let main_v2 : FVec F S64x224x224 .f32 := shapeCast S64x224x224 main_arg0 shapeCasts_S64x1x224x224_S64x224x224
  let main_cst_0 : FVec F S_ .f32 := constant S_ .f32 0x00000000#32
  let main_v3 : FVec F S64x224x224 .f32 := broadcastInDim S64x224x224 ![] bcast_S_S64x224x224 main_cst_0
  let main_v4 : FVec F S64x224x224 .f32 := shapeCast S64x224x224 main_arg0 shapeCasts_S64x1x224x224_S64x224x224
  let main_cst_1 : FVec F S_ .f32 := constant S_ .f32 0x00000000#32
  let main_v5 : FVec F S64x224x224 .f32 := broadcastInDim S64x224x224 ![] bcast_S_S64x224x224 main_cst_1
  let main_v6 : FVec F S64x224x224 .f32 := (extractStridedSlice S64x224x224 ![0, 0, 0] · slices_S64x226x226_S64x224x224_0_0_0) main_v1
  let main_v7 : FVec F S1x1x1x1 .f32 := (extractStridedSlice S1x1x1x1 ![0, 0, 0, 0] · slices_S1x1x3x3_S1x1x1x1_0_0_0_0) main_arg1
  let main_v8 : FVec F S_ .f32 := shapeCast S_ main_v7 shapeCasts_S1x1x1x1_S_
  let main_v9 : FVec F S64x224x224 .f32 := broadcastInDim S64x224x224 ![] bcast_S_S64x224x224 main_v8
  let main_v10 : FVec F S64x224x224 .f32 := mulf main_v9 main_v6
  let main_v11 : FVec F S64x224x224 .f32 := addf main_v3 main_v10
  let main_v12 : FVec F S1x1x1x1 .f32 := (extractStridedSlice S1x1x1x1 ![0, 0, 0, 0] · slices_S1x1x3x3_S1x1x1x1_0_0_0_0) main_arg2
  let main_v13 : FVec F S_ .f32 := shapeCast S_ main_v12 shapeCasts_S1x1x1x1_S_
  let main_v14 : FVec F S64x224x224 .f32 := broadcastInDim S64x224x224 ![] bcast_S_S64x224x224 main_v13
  let main_v15 : FVec F S64x224x224 .f32 := mulf main_v14 main_v6
  let main_v16 : FVec F S64x224x224 .f32 := addf main_v5 main_v15
  let main_v17 : FVec F S64x224x224 .f32 := (extractStridedSlice S64x224x224 ![0, 0, 1] · slices_S64x226x226_S64x224x224_0_0_1) main_v1
  let main_v18 : FVec F S1x1x1x1 .f32 := (extractStridedSlice S1x1x1x1 ![0, 0, 0, 1] · slices_S1x1x3x3_S1x1x1x1_0_0_0_1) main_arg1
  let main_v19 : FVec F S_ .f32 := shapeCast S_ main_v18 shapeCasts_S1x1x1x1_S_
  fn_part1 (F := F) main_arg0 main_arg1 main_arg2 main_arg3 main_cst main_v1 main_v11 main_v16 main_v17 main_v19
-- ==== Kernel.lean ====
abbrev S64x1x224x224 : Shape := ⟨4, ![64, 1, 224, 224]⟩
abbrev S1x1x3x3 : Shape := ⟨4, ![1, 1, 3, 3]⟩
abbrev S16x16 : Shape := ⟨2, ![16, 16]⟩
abbrev S224x28 : Shape := ⟨2, ![224, 28]⟩
abbrev S28x224 : Shape := ⟨2, ![28, 224]⟩
abbrev S1x16x1x16 : Shape := ⟨4, ![1, 16, 1, 16]⟩
abbrev S14x16x14x16 : Shape := ⟨4, ![14, 16, 14, 16]⟩
abbrev S224x224 : Shape := ⟨2, ![224, 224]⟩
abbrev S9x9 : Shape := ⟨2, ![9, 9]⟩
abbrev S_ : Shape := ⟨0, ![]⟩
abbrev S9x1x9x1 : Shape := ⟨4, ![9, 1, 9, 1]⟩
abbrev S1x224x1x28 : Shape := ⟨4, ![1, 224, 1, 28]⟩
abbrev S9x224x9x28 : Shape := ⟨4, ![9, 224, 9, 28]⟩
abbrev S2016x252 : Shape := ⟨2, ![2016, 252]⟩
abbrev S64x9x224x224 : Shape := ⟨4, ![64, 9, 224, 224]⟩
abbrev S1x1x224x224 : Shape := ⟨4, ![1, 1, 224, 224]⟩
abbrev S1x9x224x224 : Shape := ⟨4, ![1, 9, 224, 224]⟩
abbrev S1x224 : Shape := ⟨2, ![1, 224]⟩
abbrev S226x224 : Shape := ⟨2, ![226, 224]⟩
abbrev S226x1 : Shape := ⟨2, ![226, 1]⟩
abbrev S226x226 : Shape := ⟨2, ![226, 226]⟩
abbrev S224x226 : Shape := ⟨2, ![224, 226]⟩
abbrev S2016x224 : Shape := ⟨2, ![2016, 224]⟩
abbrev S2016x28 : Shape := ⟨2, ![2016, 28]⟩
abbrev S1792x28 : Shape := ⟨2, ![1792, 28]⟩
abbrev S252x8x28 : Shape := ⟨3, ![252, 8, 28]⟩
abbrev S252x28 : Shape := ⟨2, ![252, 28]⟩
abbrev S9x224x224 : Shape := ⟨3, ![9, 224, 224]⟩

abbrev nBuf : Space → Nat
  | .hbm => 24
  | .vmem => 8
  | .smem => 0
  | _ => 0

abbrev bufTy : (tb : Table) → Fin (tcTables nBuf tb) → BufTy
  | .hbm, ⟨0, _⟩ => ⟨S64x1x224x224, .f32⟩
  | .hbm, ⟨1, _⟩ => ⟨S1x1x3x3, .f32⟩
  | .hbm, ⟨2, _⟩ => ⟨S1x1x3x3, .f32⟩
  | .hbm, ⟨3, _⟩ => ⟨S16x16, .f32⟩
  | .hbm, ⟨4, _⟩ => ⟨S224x28, .f32⟩
  | .hbm, ⟨5, _⟩ => ⟨S224x28, .f32⟩
  | .hbm, ⟨6, _⟩ => ⟨S28x224, .f32⟩
  | .hbm, ⟨7, _⟩ => ⟨S1x16x1x16, .f32⟩
  | .hbm, ⟨8, _⟩ => ⟨S14x16x14x16, .f32⟩
  | .hbm, ⟨9, _⟩ => ⟨S224x224, .f32⟩
  | .hbm, ⟨10, _⟩ => ⟨S9x9, .i32⟩
  | .hbm, ⟨11, _⟩ => ⟨S9x9, .i32⟩
  | .hbm, ⟨12, _⟩ => ⟨S_, .i32⟩
  | .hbm, ⟨13, _⟩ => ⟨S9x9, .i32⟩
  | .hbm, ⟨14, _⟩ => ⟨S9x9, .i32⟩
  | .hbm, ⟨15, _⟩ => ⟨S9x9, .i1⟩
  | .hbm, ⟨16, _⟩ => ⟨S9x9, .f32⟩
  | .hbm, ⟨17, _⟩ => ⟨S9x1x9x1, .f32⟩
  | .hbm, ⟨18, _⟩ => ⟨S1x224x1x28, .f32⟩
  | .hbm, ⟨19, _⟩ => ⟨S9x224x9x28, .f32⟩
  | .hbm, ⟨20, _⟩ => ⟨S9x224x9x28, .f32⟩
  | .hbm, ⟨21, _⟩ => ⟨S9x224x9x28, .f32⟩
  | .hbm, ⟨22, _⟩ => ⟨S2016x252, .f32⟩
  | .hbm, ⟨23, _⟩ => ⟨S64x9x224x224, .f32⟩
  | .local _ .vmem, ⟨0, _⟩ => ⟨S1x1x224x224, .f32⟩
  | .local _ .vmem, ⟨1, _⟩ => ⟨S1x1x224x224, .f32⟩
  | .local _ .vmem, ⟨2, _⟩ => ⟨S224x224, .f32⟩
  | .local _ .vmem, ⟨3, _⟩ => ⟨S224x28, .f32⟩
  | .local _ .vmem, ⟨4, _⟩ => ⟨S2016x252, .f32⟩
  | .local _ .vmem, ⟨5, _⟩ => ⟨S28x224, .f32⟩
  | .local _ .vmem, ⟨6, _⟩ => ⟨S1x9x224x224, .f32⟩
  | .local _ .vmem, ⟨7, _⟩ => ⟨S1x9x224x224, .f32⟩
  | _, _ => ⟨S64x1x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S224x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S224x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2016x252 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S28x224 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x9x224x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S64x1x224x224 : Shape := ⟨4, ![64, 1, 224, 224]⟩
abbrev S1x1x3x3 : Shape := ⟨4, ![1, 1, 3, 3]⟩
abbrev S16x16 : Shape := ⟨2, ![16, 16]⟩
abbrev S64x224x224 : Shape := ⟨3, ![64, 224, 224]⟩
abbrev S_ : Shape := ⟨0, ![]⟩
abbrev S64x1x224 : Shape := ⟨3, ![64, 1, 224]⟩
abbrev S64x225x224 : Shape := ⟨3, ![64, 225, 224]⟩
abbrev S64x226x224 : Shape := ⟨3, ![64, 226, 224]⟩
abbrev S64x226x1 : Shape := ⟨3, ![64, 226, 1]⟩
abbrev S64x226x225 : Shape := ⟨3, ![64, 226, 225]⟩
abbrev S64x226x226 : Shape := ⟨3, ![64, 226, 226]⟩
abbrev S1x1x1x1 : Shape := ⟨4, ![1, 1, 1, 1]⟩
abbrev S1x16x1x16 : Shape := ⟨4, ![1, 16, 1, 16]⟩
abbrev S14x16x14x16 : Shape := ⟨4, ![14, 16, 14, 16]⟩
abbrev S224x224 : Shape := ⟨2, ![224, 224]⟩
abbrev S1x224x224 : Shape := ⟨3, ![1, 224, 224]⟩
abbrev S9 : Shape := ⟨1, ![9]⟩
abbrev S1x9x1x1 : Shape := ⟨4, ![1, 9, 1, 1]⟩
abbrev S64x9x224x224 : Shape := ⟨4, ![64, 9, 224, 224]⟩
abbrev S64x9x28x8x28x8 : Shape := ⟨6, ![64, 9, 28, 8, 28, 8]⟩
abbrev S64x9x28x28 : Shape := ⟨4, ![64, 9, 28, 28]⟩
abbrev S224 : Shape := ⟨1, ![224]⟩
abbrev S28 : Shape := ⟨1, ![28]⟩
abbrev S1x224 : Shape := ⟨2, ![1, 224]⟩
abbrev S28x1 : Shape := ⟨2, ![28, 1]⟩
abbrev S28x224 : Shape := ⟨2, ![28, 224]⟩
abbrev S224x64x9x28 : Shape := ⟨4, ![224, 64, 9, 28]⟩
abbrev S64x9x224x28 : Shape := ⟨4, ![64, 9, 224, 28]⟩

abbrev nBuf : Space → Nat
  | .hbm => 316
  | .vmem => 0
  | .smem => 0
  | _ => 0

abbrev hbmTy0_0 (i : Nat) : BufTy := match i % 128 with
  | 0 => ⟨S64x1x224x224, .f32⟩
  | 1 => ⟨S1x1x3x3, .f32⟩
  | 2 => ⟨S1x1x3x3, .f32⟩
  | 3 => ⟨S16x16, .f32⟩
  | 4 => ⟨S64x224x224, .f32⟩
  | 5 => ⟨S_, .i32⟩
  | 6 => ⟨S64x1x224, .f32⟩
  | 7 => ⟨S64x1x224, .f32⟩
  | 8 => ⟨S64x1x224, .f32⟩
  | 9 => ⟨S64x225x224, .f32⟩
  | 10 => ⟨S64x1x224, .f32⟩
  | 11 => ⟨S64x1x224, .f32⟩
  | 12 => ⟨S64x1x224, .f32⟩
  | 13 => ⟨S64x226x224, .f32⟩
  | 14 => ⟨S64x226x1, .f32⟩
  | 15 => ⟨S64x226x1, .f32⟩
  | 16 => ⟨S64x226x1, .f32⟩
  | 17 => ⟨S64x226x225, .f32⟩
  | 18 => ⟨S64x226x1, .f32⟩
  | 19 => ⟨S64x226x1, .f32⟩
  | 20 => ⟨S64x226x1, .f32⟩
  | 21 => ⟨S64x226x226, .f32⟩
  | 22 => ⟨S64x224x224, .f32⟩
  | 23 => ⟨S_, .f32⟩
  | 24 => ⟨S64x224x224, .f32⟩
  | 25 => ⟨S64x224x224, .f32⟩
  | 26 => ⟨S_, .f32⟩
  | 27 => ⟨S64x224x224, .f32⟩
  | 28 => ⟨S64x224x224, .f32⟩
  | 29 => ⟨S1x1x1x1, .f32⟩
  | 30 => ⟨S_, .f32⟩
  | 31 => ⟨S64x224x224, .f32⟩
  | 32 => ⟨S64x224x224, .f32⟩
  | 33 => ⟨S64x224x224, .f32⟩
  | 34 => ⟨S1x1x1x1, .f32⟩
  | 35 => ⟨S_, .f32⟩
  | 36 => ⟨S64x224x224, .f32⟩
  | 37 => ⟨S64x224x224, .f32⟩
  | 38 => ⟨S64x224x224, .f32⟩
  | 39 => ⟨S64x224x224, .f32⟩
  | 40 => ⟨S1x1x1x1, .f32⟩
  | 41 => ⟨S_, .f32⟩
  | 42 => ⟨S64x224x224, .f32⟩
  | 43 => ⟨S64x224x224, .f32⟩
  | 44 => ⟨S64x224x224, .f32⟩
  | 45 => ⟨S1x1x1x1, .f32⟩
  | 46 => ⟨S_, .f32⟩
  | 47 => ⟨S64x224x224, .f32⟩
  | 48 => ⟨S64x224x224, .f32⟩
  | 49 => ⟨S64x224x224, .f32⟩
  | 50 => ⟨S64x224x224, .f32⟩
  | 51 => ⟨S1x1x1x1, .f32⟩
  | 52 => ⟨S_, .f32⟩
  | 53 => ⟨S64x224x224, .f32⟩
  | 54 => ⟨S64x224x224, .f32⟩
  | 55 => ⟨S64x224x224, .f32⟩
  | 56 => ⟨S1x1x1x1, .f32⟩
  | 57 => ⟨S_, .f32⟩
  | 58 => ⟨S64x224x224, .f32⟩
  | 59 => ⟨S64x224x224, .f32⟩
  | 60 => ⟨S64x224x224, .f32⟩
  | 61 => ⟨S64x224x224, .f32⟩
  | 62 => ⟨S1x1x1x1, .f32⟩
  | 63 => ⟨S_, .f32⟩
  | 64 => ⟨S64x224x224, .f32⟩
  | 65 => ⟨S64x224x224, .f32⟩
  | 66 => ⟨S64x224x224, .f32⟩
  | 67 => ⟨S1x1x1x1, .f32⟩
  | 68 => ⟨S_, .f32⟩
  | 69 => ⟨S64x224x224, .f32⟩
  | 70 => ⟨S64x224x224, .f32⟩
  | 71 => ⟨S64x224x224, .f32⟩
  | 72 => ⟨S64x224x224, .f32⟩
  | 73 => ⟨S1x1x1x1, .f32⟩
  | 74 => ⟨S_, .f32⟩
  | 75 => ⟨S64x224x224, .f32⟩
  | 76 => ⟨S64x224x224, .f32⟩
  | 77 => ⟨S64x224x224, .f32⟩
  | 78 => ⟨S1x1x1x1, .f32⟩
  | 79 => ⟨S_, .f32⟩
  | 80 => ⟨S64x224x224, .f32⟩
  | 81 => ⟨S64x224x224, .f32⟩
  | 82 => ⟨S64x224x224, .f32⟩
  | 83 => ⟨S64x224x224, .f32⟩
  | 84 => ⟨S1x1x1x1, .f32⟩
  | 85 => ⟨S_, .f32⟩
  | 86 => ⟨S64x224x224, .f32⟩
  | 87 => ⟨S64x224x224, .f32⟩
  | 88 => ⟨S64x224x224, .f32⟩
  | 89 => ⟨S1x1x1x1, .f32⟩
  | 90 => ⟨S_, .f32⟩
  | 91 => ⟨S64x224x224, .f32⟩
  | 92 => ⟨S64x224x224, .f32⟩
  | 93 => ⟨S64x224x224, .f32⟩
  | 94 => ⟨S64x224x224, .f32⟩
  | 95 => ⟨S1x1x1x1, .f32⟩
  | 96 => ⟨S_, .f32⟩
  | 97 => ⟨S64x224x224, .f32⟩
  | 98 => ⟨S64x224x224, .f32⟩
  | 99 => ⟨S64x224x224, .f32⟩
  | 100 => ⟨S1x1x1x1, .f32⟩
  | 101 => ⟨S_, .f32⟩
  | 102 => ⟨S64x224x224, .f32⟩
  | 103 => ⟨S64x224x224, .f32⟩
  | 104 => ⟨S64x224x224, .f32⟩
  | 105 => ⟨S64x224x224, .f32⟩
  | 106 => ⟨S1x1x1x1, .f32⟩
  | 107 => ⟨S_, .f32⟩
  | 108 => ⟨S64x224x224, .f32⟩
  | 109 => ⟨S64x224x224, .f32⟩
  | 110 => ⟨S64x224x224, .f32⟩
  | 111 => ⟨S1x1x1x1, .f32⟩
  | 112 => ⟨S_, .f32⟩
  | 113 => ⟨S64x224x224, .f32⟩
  | 114 => ⟨S64x224x224, .f32⟩
  | 115 => ⟨S64x224x224, .f32⟩
  | 116 => ⟨S64x224x224, .f32⟩
  | 117 => ⟨S1x1x1x1, .f32⟩
  | 118 => ⟨S_, .f32⟩
  | 119 => ⟨S64x224x224, .f32⟩
  | 120 => ⟨S64x224x224, .f32⟩
  | 121 => ⟨S64x224x224, .f32⟩
  | 122 => ⟨S1x1x1x1, .f32⟩
  | 123 => ⟨S_, .f32⟩
  | 124 => ⟨S64x224x224, .f32⟩
  | 125 => ⟨S64x224x224, .f32⟩
  | 126 => ⟨S64x224x224, .f32⟩
  | 127 => ⟨S64x224x224, .f32⟩
  | _ => ⟨S64x1x224x224, .f32⟩

abbrev hbmTy0_1 (i : Nat) : BufTy := match i % 128 with
  | 0 => ⟨S64x224x224, .f32⟩
  | 1 => ⟨S64x224x224, .f32⟩
  | 2 => ⟨S64x224x224, .f32⟩
  | 3 => ⟨S_, .f32⟩
  | 4 => ⟨S_, .f32⟩
  | 5 => ⟨S_, .f32⟩
  | 6 => ⟨S64x224x224, .f32⟩
  | 7 => ⟨S64x224x224, .f32⟩
  | 8 => ⟨S64x224x224, .f32⟩
  | 9 => ⟨S_, .f32⟩
  | 10 => ⟨S64x224x224, .f32⟩
  | 11 => ⟨S64x224x224, .f32⟩
  | 12 => ⟨S64x224x224, .f32⟩
  | 13 => ⟨S64x224x224, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S64x224x224, .i32⟩
  | 21 => ⟨S64x224x224, .i32⟩
  | 22 => ⟨S_, .i32⟩
  | 23 => ⟨S64x224x224, .i32⟩
  | 24 => ⟨S64x224x224, .i1⟩
  | 25 => ⟨S_, .i32⟩
  | 26 => ⟨S64x224x224, .i32⟩
  | 27 => ⟨S64x224x224, .i1⟩
  | 28 => ⟨S_, .i32⟩
  | 29 => ⟨S_, .i1⟩
  | 30 => ⟨S64x224x224, .i1⟩
  | 31 => ⟨S64x224x224, .i1⟩
  | 32 => ⟨S64x224x224, .i1⟩
  | 33 => ⟨S64x224x224, .i32⟩
  | 34 => ⟨S64x224x224, .i32⟩
  | 35 => ⟨S64x224x224, .i32⟩
  | 36 => ⟨S1x16x1x16, .f32⟩
  | 37 => ⟨S14x16x14x16, .f32⟩
  | 38 => ⟨S224x224, .f32⟩
  | 39 => ⟨S1x224x224, .f32⟩
  | 40 => ⟨S64x224x224, .f32⟩
  | 41 => ⟨S64x224x224, .f32⟩
  | 42 => ⟨S9, .i32⟩
  | 43 => ⟨S1x9x1x1, .i32⟩
  | 44 => ⟨S64x1x224x224, .i32⟩
  | 45 => ⟨S64x9x224x224, .i32⟩
  | 46 => ⟨S64x9x224x224, .i32⟩
  | 47 => ⟨S64x9x224x224, .i1⟩
  | 48 => ⟨S64x1x224x224, .f32⟩
  | 49 => ⟨S_, .f32⟩
  | 50 => ⟨S_, .f32⟩
  | 51 => ⟨S64x9x224x224, .f32⟩
  | 52 => ⟨S64x9x224x224, .f32⟩
  | 53 => ⟨S64x9x224x224, .f32⟩
  | 54 => ⟨S64x9x28x8x28x8, .f32⟩
  | 55 => ⟨S_, .f32⟩
  | 56 => ⟨S64x9x28x28, .f32⟩
  | 57 => ⟨S224, .f32⟩
  | 58 => ⟨S_, .f32⟩
  | 59 => ⟨S224, .f32⟩
  | 60 => ⟨S224, .f32⟩
  | 61 => ⟨S_, .f32⟩
  | 62 => ⟨S224, .f32⟩
  | 63 => ⟨S224, .f32⟩
  | 64 => ⟨S_, .f32⟩
  | 65 => ⟨S224, .f32⟩
  | 66 => ⟨S224, .f32⟩
  | 67 => ⟨S_, .f32⟩
  | 68 => ⟨S224, .f32⟩
  | 69 => ⟨S224, .f32⟩
  | 70 => ⟨S28, .f32⟩
  | 71 => ⟨S1x224, .f32⟩
  | 72 => ⟨S28x1, .f32⟩
  | 73 => ⟨S28x224, .f32⟩
  | 74 => ⟨S28x224, .f32⟩
  | 75 => ⟨S28x224, .f32⟩
  | 76 => ⟨S28x224, .f32⟩
  | 77 => ⟨S_, .f32⟩
  | 78 => ⟨S28x224, .f32⟩
  | 79 => ⟨S28x224, .f32⟩
  | 80 => ⟨S28x224, .f32⟩
  | 81 => ⟨S_, .f32⟩
  | 82 => ⟨S28x224, .f32⟩
  | 83 => ⟨S28x224, .f32⟩
  | 84 => ⟨S_, .f32⟩
  | 85 => ⟨S28x224, .f32⟩
  | 86 => ⟨S28x224, .f32⟩
  | 87 => ⟨S_, .f32⟩
  | 88 => ⟨S224, .f32⟩
  | 89 => ⟨S1x224, .f32⟩
  | 90 => ⟨S1x224, .f32⟩
  | 91 => ⟨S_, .f32⟩
  | 92 => ⟨S1x224, .f32⟩
  | 93 => ⟨S1x224, .i1⟩
  | 94 => ⟨S_, .f32⟩
  | 95 => ⟨S1x224, .f32⟩
  | 96 => ⟨S1x224, .i1⟩
  | 97 => ⟨S_, .i32⟩
  | 98 => ⟨S_, .f32⟩
  | 99 => ⟨S1x224, .f32⟩
  | 100 => ⟨S1x224, .f32⟩
  | 101 => ⟨S28x224, .f32⟩
  | 102 => ⟨S28x224, .f32⟩
  | 103 => ⟨S_, .i32⟩
  | 104 => ⟨S_, .f32⟩
  | 105 => ⟨S28x224, .i1⟩
  | 106 => ⟨S28x224, .f32⟩
  | 107 => ⟨S28x224, .f32⟩
  | 108 => ⟨S_, .f32⟩
  | 109 => ⟨S224, .f32⟩
  | 110 => ⟨S224, .i1⟩
  | 111 => ⟨S_, .f32⟩
  | 112 => ⟨S224, .f32⟩
  | 113 => ⟨S224, .i1⟩
  | 114 => ⟨S224, .i1⟩
  | 115 => ⟨S1x224, .i1⟩
  | 116 => ⟨S_, .i32⟩
  | 117 => ⟨S_, .f32⟩
  | 118 => ⟨S28x224, .i1⟩
  | 119 => ⟨S28x224, .f32⟩
  | 120 => ⟨S28x224, .f32⟩
  | 121 => ⟨S224x64x9x28, .f32⟩
  | 122 => ⟨S64x9x224x28, .f32⟩
  | 123 => ⟨S224, .f32⟩
  | 124 => ⟨S_, .f32⟩
  | 125 => ⟨S224, .f32⟩
  | 126 => ⟨S224, .f32⟩
  | 127 => ⟨S_, .f32⟩
  | _ => ⟨S64x1x224x224, .f32⟩

abbrev hbmTy0_2 (i : Nat) : BufTy := match i % 128 with
  | 0 => ⟨S224, .f32⟩
  | 1 => ⟨S224, .f32⟩
  | 2 => ⟨S_, .f32⟩
  | 3 => ⟨S224, .f32⟩
  | 4 => ⟨S224, .f32⟩
  | 5 => ⟨S_, .f32⟩
  | 6 => ⟨S224, .f32⟩
  | 7 => ⟨S224, .f32⟩
  | 8 => ⟨S28, .f32⟩
  | 9 => ⟨S1x224, .f32⟩
  | 10 => ⟨S28x1, .f32⟩
  | 11 => ⟨S28x224, .f32⟩
  | 12 => ⟨S28x224, .f32⟩
  | 13 => ⟨S28x224, .f32⟩
  | 14 => ⟨S28x224, .f32⟩
  | 15 => ⟨S_, .f32⟩
  | 16 => ⟨S28x224, .f32⟩
  | 17 => ⟨S28x224, .f32⟩
  | 18 => ⟨S28x224, .f32⟩
  | 19 => ⟨S_, .f32⟩
  | 20 => ⟨S28x224, .f32⟩
  | 21 => ⟨S28x224, .f32⟩
  | 22 => ⟨S_, .f32⟩
  | 23 => ⟨S28x224, .f32⟩
  | 24 => ⟨S28x224, .f32⟩
  | 25 => ⟨S_, .f32⟩
  | 26 => ⟨S224, .f32⟩
  | 27 => ⟨S1x224, .f32⟩
  | 28 => ⟨S1x224, .f32⟩
  | 29 => ⟨S_, .f32⟩
  | 30 => ⟨S1x224, .f32⟩
  | 31 => ⟨S1x224, .i1⟩
  | 32 => ⟨S_, .f32⟩
  | 33 => ⟨S1x224, .f32⟩
  | 34 => ⟨S1x224, .i1⟩
  | 35 => ⟨S_, .i32⟩
  | 36 => ⟨S_, .f32⟩
  | 37 => ⟨S1x224, .f32⟩
  | 38 => ⟨S1x224, .f32⟩
  | 39 => ⟨S28x224, .f32⟩
  | 40 => ⟨S28x224, .f32⟩
  | 41 => ⟨S_, .i32⟩
  | 42 => ⟨S_, .f32⟩
  | 43 => ⟨S28x224, .i1⟩
  | 44 => ⟨S28x224, .f32⟩
  | 45 => ⟨S28x224, .f32⟩
  | 46 => ⟨S_, .f32⟩
  | 47 => ⟨S224, .f32⟩
  | 48 => ⟨S224, .i1⟩
  | 49 => ⟨S_, .f32⟩
  | 50 => ⟨S224, .f32⟩
  | 51 => ⟨S224, .i1⟩
  | 52 => ⟨S224, .i1⟩
  | 53 => ⟨S1x224, .i1⟩
  | 54 => ⟨S_, .i32⟩
  | 55 => ⟨S_, .f32⟩
  | 56 => ⟨S28x224, .i1⟩
  | 57 => ⟨S28x224, .f32⟩
  | 58 => ⟨S28x224, .f32⟩
  | 59 => ⟨S64x9x224x224, .f32⟩
  | _ => ⟨S64x1x224x224, .f32⟩

abbrev hbmTy (i : Nat) : BufTy := match i / 128 with
  | 0 => hbmTy0_0 i
  | 1 => hbmTy0_1 i
  | 2 => hbmTy0_2 i
  | _ => ⟨S64x1x224x224, .f32⟩

abbrev bufTy : (tb : Table) → Fin (tcTables nBuf tb) → BufTy
  | .hbm, ⟨i, _⟩ => hbmTy i
  | _, _ => ⟨S64x1x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_1 : Ref sig .tc := ⟨.hbm, 131, rfl⟩
abbrev main_cst_2 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_3 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_c_4 : Ref sig .tc := ⟨.hbm, 142, rfl⟩
abbrev main_call1_v0 : Ref sig .tc := ⟨.hbm, 143, rfl⟩
abbrev main_call1_c : Ref sig .tc := ⟨.hbm, 144, rfl⟩
abbrev main_call1_v1 : Ref sig .tc := ⟨.hbm, 145, rfl⟩
abbrev main_call1_c_0 : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_call1_c_1 : Ref sig .tc := ⟨.hbm, 150, rfl⟩
abbrev main_call1_v5 : Ref sig .tc := ⟨.hbm, 151, rfl⟩
abbrev main_call1_v6 : Ref sig .tc := ⟨.hbm, 152, rfl⟩
abbrev main_call1_c_2 : Ref sig .tc := ⟨.hbm, 153, rfl⟩
abbrev main_call1_v7 : Ref sig .tc := ⟨.hbm, 154, rfl⟩
abbrev main_call1_v8 : Ref sig .tc := ⟨.hbm, 155, rfl⟩
abbrev main_call1_c_3 : Ref sig .tc := ⟨.hbm, 156, rfl⟩
abbrev main_call1_v9 : Ref sig .tc := ⟨.hbm, 157, rfl⟩
abbrev main_call1_v10 : Ref sig .tc := ⟨.hbm, 158, rfl⟩
abbrev main_call1_v11 : Ref sig .tc := ⟨.hbm, 159, rfl⟩
abbrev main_call1_v12 : Ref sig .tc := ⟨.hbm, 160, rfl⟩
abbrev main_call1_v13 : Ref sig .tc := ⟨.hbm, 161, rfl⟩
abbrev main_call1_v14 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_5 : Ref sig .tc := ⟨.hbm, 177, rfl⟩
abbrev main_call2_v0 : Ref sig .tc := ⟨.hbm, 178, rfl⟩
abbrev main_call2_v1 : Ref sig .tc := ⟨.hbm, 179, rfl⟩
abbrev main_call2_v2 : Ref sig .tc := ⟨.hbm, 180, rfl⟩
abbrev main_v131 : Ref sig .tc := ⟨.hbm, 181, rfl⟩
abbrev main_v132 : Ref sig .tc := ⟨.hbm, 182, rfl⟩
abbrev main_cst_6 : Ref sig .tc := ⟨.hbm, 183, rfl⟩
abbrev main_v133 : Ref sig .tc := ⟨.hbm, 184, rfl⟩
abbrev main_call3_v0 : Ref sig .tc := ⟨.hbm, 185, rfl⟩
abbrev main_call3_cst : Ref sig .tc := ⟨.hbm, 186, rfl⟩
abbrev main_call3_v1 : Ref sig .tc := ⟨.hbm, 187, rfl⟩
abbrev main_call3_v2 : Ref sig .tc := ⟨.hbm, 188, rfl⟩
abbrev main_call3_cst_0 : Ref sig .tc := ⟨.hbm, 189, rfl⟩
abbrev main_call3_v3 : Ref sig .tc := ⟨.hbm, 190, rfl⟩
abbrev main_call3_v4 : Ref sig .tc := ⟨.hbm, 191, rfl⟩
abbrev main_call3_cst_1 : Ref sig .tc := ⟨.hbm, 192, rfl⟩
abbrev main_call3_v5 : Ref sig .tc := ⟨.hbm, 193, rfl⟩
abbrev main_call3_v6 : Ref sig .tc := ⟨.hbm, 194, rfl⟩
abbrev main_call3_cst_2 : Ref sig .tc := ⟨.hbm, 195, rfl⟩
abbrev main_call3_v7 : Ref sig .tc := ⟨.hbm, 196, rfl⟩
abbrev main_call3_v8 : Ref sig .tc := ⟨.hbm, 197, rfl⟩
abbrev main_call3_v9 : Ref sig .tc := ⟨.hbm, 198, rfl⟩
abbrev main_call3_v10 : Ref sig .tc := ⟨.hbm, 199, rfl⟩
abbrev main_call3_v11 : Ref sig .tc := ⟨.hbm, 200, rfl⟩
abbrev main_call3_v12 : Ref sig .tc := ⟨.hbm, 201, rfl⟩
abbrev main_call3_v13 : Ref sig .tc := ⟨.hbm, 202, rfl⟩
abbrev main_call3_v14 : Ref sig .tc := ⟨.hbm, 203, rfl⟩
abbrev main_call3_v15 : Ref sig .tc := ⟨.hbm, 204, rfl⟩
abbrev main_call3_cst_3 : Ref sig .tc := ⟨.hbm, 205, rfl⟩
abbrev main_call3_v16 : Ref sig .tc := ⟨.hbm, 206, rfl⟩
abbrev main_call3_v17 : Ref sig .tc := ⟨.hbm, 207, rfl⟩
abbrev main_call3_v18 : Ref sig .tc := ⟨.hbm, 208, rfl⟩
abbrev main_call3_cst_4 : Ref sig .tc := ⟨.hbm, 209, rfl⟩
abbrev main_call3_v19 : Ref sig .tc := ⟨.hbm, 210, rfl⟩
abbrev main_call3_v20 : Ref sig .tc := ⟨.hbm, 211, rfl⟩
abbrev main_call3_cst_5 : Ref sig .tc := ⟨.hbm, 212, rfl⟩
abbrev main_call3_v21 : Ref sig .tc := ⟨.hbm, 213, rfl⟩
abbrev main_call3_v22 : Ref sig .tc := ⟨.hbm, 214, rfl⟩
abbrev main_call3_cst_6 : Ref sig .tc := ⟨.hbm, 215, rfl⟩
abbrev main_call3_v23 : Ref sig .tc := ⟨.hbm, 216, rfl⟩
abbrev main_call3_v24 : Ref sig .tc := ⟨.hbm, 217, rfl⟩
abbrev main_call3_v25 : Ref sig .tc := ⟨.hbm, 218, rfl⟩
abbrev main_call3_cst_7 : Ref sig .tc := ⟨.hbm, 219, rfl⟩
abbrev main_call3_v26 : Ref sig .tc := ⟨.hbm, 220, rfl⟩
abbrev main_call3_v27 : Ref sig .tc := ⟨.hbm, 221, rfl⟩
abbrev main_call3_cst_8 : Ref sig .tc := ⟨.hbm, 222, rfl⟩
abbrev main_call3_v28 : Ref sig .tc := ⟨.hbm, 223, rfl⟩
abbrev main_call3_v29 : Ref sig .tc := ⟨.hbm, 224, rfl⟩
abbrev main_call3_c : Ref sig .tc := ⟨.hbm, 225, rfl⟩
abbrev main_call3_call0_v0 : Ref sig .tc := ⟨.hbm, 226, rfl⟩
abbrev main_call3_call0_v1 : Ref sig .tc := ⟨.hbm, 227, rfl⟩
abbrev main_call3_v30 : Ref sig .tc := ⟨.hbm, 228, rfl⟩
abbrev main_call3_v31 : Ref sig .tc := ⟨.hbm, 229, rfl⟩
abbrev main_call3_v32 : Ref sig .tc := ⟨.hbm, 230, rfl⟩
abbrev main_call3_c_9 : Ref sig .tc := ⟨.hbm, 231, rfl⟩
abbrev main_call3_call1_v0 : Ref sig .tc := ⟨.hbm, 232, rfl⟩
abbrev main_call3_call1_v1 : Ref sig .tc := ⟨.hbm, 233, rfl⟩
abbrev main_call3_call1_v2 : Ref sig .tc := ⟨.hbm, 234, rfl⟩
abbrev main_call3_v33 : Ref sig .tc := ⟨.hbm, 235, rfl⟩
abbrev main_call3_cst_10 : Ref sig .tc := ⟨.hbm, 236, rfl⟩
abbrev main_call3_v34 : Ref sig .tc := ⟨.hbm, 237, rfl⟩
abbrev main_call3_v35 : Ref sig .tc := ⟨.hbm, 238, rfl⟩
abbrev main_call3_cst_11 : Ref sig .tc := ⟨.hbm, 239, rfl⟩
abbrev main_call3_v36 : Ref sig .tc := ⟨.hbm, 240, rfl⟩
abbrev main_call3_v37 : Ref sig .tc := ⟨.hbm, 241, rfl⟩
abbrev main_call3_v38 : Ref sig .tc := ⟨.hbm, 242, rfl⟩
abbrev main_call3_v39 : Ref sig .tc := ⟨.hbm, 243, rfl⟩
abbrev main_call3_c_12 : Ref sig .tc := ⟨.hbm, 244, rfl⟩
abbrev main_call3_call2_v0 : Ref sig .tc := ⟨.hbm, 245, rfl⟩
abbrev main_call3_call2_v1 : Ref sig .tc := ⟨.hbm, 246, rfl⟩
abbrev main_call3_call2_v2 : Ref sig .tc := ⟨.hbm, 247, rfl⟩
abbrev main_call3_v40 : Ref sig .tc := ⟨.hbm, 248, rfl⟩
abbrev main_call3_v41 : Ref sig .tc := ⟨.hbm, 249, rfl⟩
abbrev main_v134 : Ref sig .tc := ⟨.hbm, 250, rfl⟩
abbrev main_call4_v0 : Ref sig .tc := ⟨.hbm, 251, rfl⟩
abbrev main_call4_cst : Ref sig .tc := ⟨.hbm, 252, rfl⟩
abbrev main_call4_v1 : Ref sig .tc := ⟨.hbm, 253, rfl⟩
abbrev main_call4_v2 : Ref sig .tc := ⟨.hbm, 254, rfl⟩
abbrev main_call4_cst_0 : Ref sig .tc := ⟨.hbm, 255, rfl⟩
abbrev main_call4_v3 : Ref sig .tc := ⟨.hbm, 256, rfl⟩
abbrev main_call4_v4 : Ref sig .tc := ⟨.hbm, 257, rfl⟩
abbrev main_call4_cst_1 : Ref sig .tc := ⟨.hbm, 258, rfl⟩
abbrev main_call4_v5 : Ref sig .tc := ⟨.hbm, 259, rfl⟩
abbrev main_call4_v6 : Ref sig .tc := ⟨.hbm, 260, rfl⟩
abbrev main_call4_cst_2 : Ref sig .tc := ⟨.hbm, 261, rfl⟩
abbrev main_call4_v7 : Ref sig .tc := ⟨.hbm, 262, rfl⟩
abbrev main_call4_v8 : Ref sig .tc := ⟨.hbm, 263, rfl⟩
abbrev main_call4_v9 : Ref sig .tc := ⟨.hbm, 264, rfl⟩
abbrev main_call4_v10 : Ref sig .tc := ⟨.hbm, 265, rfl⟩
abbrev main_call4_v11 : Ref sig .tc := ⟨.hbm, 266, rfl⟩
abbrev main_call4_v12 : Ref sig .tc := ⟨.hbm, 267, rfl⟩
abbrev main_call4_v13 : Ref sig .tc := ⟨.hbm, 268, rfl⟩
abbrev main_call4_v14 : Ref sig .tc := ⟨.hbm, 269, rfl⟩
abbrev main_call4_v15 : Ref sig .tc := ⟨.hbm, 270, rfl⟩
abbrev main_call4_cst_3 : Ref sig .tc := ⟨.hbm, 271, rfl⟩
abbrev main_call4_v16 : Ref sig .tc := ⟨.hbm, 272, rfl⟩
abbrev main_call4_v17 : Ref sig .tc := ⟨.hbm, 273, rfl⟩
abbrev main_call4_v18 : Ref sig .tc := ⟨.hbm, 274, rfl⟩
abbrev main_call4_cst_4 : Ref sig .tc := ⟨.hbm, 275, rfl⟩
abbrev main_call4_v19 : Ref sig .tc := ⟨.hbm, 276, rfl⟩
abbrev main_call4_v20 : Ref sig .tc := ⟨.hbm, 277, rfl⟩
abbrev main_call4_cst_5 : Ref sig .tc := ⟨.hbm, 278, rfl⟩
abbrev main_call4_v21 : Ref sig .tc := ⟨.hbm, 279, rfl⟩
abbrev main_call4_v22 : Ref sig .tc := ⟨.hbm, 280, rfl⟩
abbrev main_call4_cst_6 : Ref sig .tc := ⟨.hbm, 281, rfl⟩
abbrev main_call4_v23 : Ref sig .tc := ⟨.hbm, 282, rfl⟩
abbrev main_call4_v24 : Ref sig .tc := ⟨.hbm, 283, rfl⟩
abbrev main_call4_v25 : Ref sig .tc := ⟨.hbm, 284, rfl⟩
abbrev main_call4_cst_7 : Ref sig .tc := ⟨.hbm, 285, rfl⟩
abbrev main_call4_v26 : Ref sig .tc := ⟨.hbm, 286, rfl⟩
abbrev main_call4_v27 : Ref sig .tc := ⟨.hbm, 287, rfl⟩
abbrev main_call4_cst_8 : Ref sig .tc := ⟨.hbm, 288, rfl⟩
abbrev main_call4_v28 : Ref sig .tc := ⟨.hbm, 289, rfl⟩
abbrev main_call4_v29 : Ref sig .tc := ⟨.hbm, 290, rfl⟩
abbrev main_call4_c : Ref sig .tc := ⟨.hbm, 291, rfl⟩
abbrev main_call4_call0_v0 : Ref sig .tc := ⟨.hbm, 292, rfl⟩
abbrev main_call4_call0_v1 : Ref sig .tc := ⟨.hbm, 293, rfl⟩
abbrev main_call4_v30 : Ref sig .tc := ⟨.hbm, 294, rfl⟩
abbrev main_call4_v31 : Ref sig .tc := ⟨.hbm, 295, rfl⟩
abbrev main_call4_v32 : Ref sig .tc := ⟨.hbm, 296, rfl⟩
abbrev main_call4_c_9 : Ref sig .tc := ⟨.hbm, 297, rfl⟩
abbrev main_call4_call1_v0 : Ref sig .tc := ⟨.hbm, 298, rfl⟩
abbrev main_call4_call1_v1 : Ref sig .tc := ⟨.hbm, 299, rfl⟩
abbrev main_call4_call1_v2 : Ref sig .tc := ⟨.hbm, 300, rfl⟩
abbrev main_call4_v33 : Ref sig .tc := ⟨.hbm, 301, rfl⟩
abbrev main_call4_cst_10 : Ref sig .tc := ⟨.hbm, 302, rfl⟩
abbrev main_call4_v34 : Ref sig .tc := ⟨.hbm, 303, rfl⟩
abbrev main_call4_v35 : Ref sig .tc := ⟨.hbm, 304, rfl⟩
abbrev main_call4_cst_11 : Ref sig .tc := ⟨.hbm, 305, rfl⟩
abbrev main_call4_v36 : Ref sig .tc := ⟨.hbm, 306, rfl⟩
abbrev main_call4_v37 : Ref sig .tc := ⟨.hbm, 307, rfl⟩
abbrev main_call4_v38 : Ref sig .tc := ⟨.hbm, 308, rfl⟩
abbrev main_call4_v39 : Ref sig .tc := ⟨.hbm, 309, rfl⟩
abbrev main_call4_c_12 : Ref sig .tc := ⟨.hbm, 310, rfl⟩
abbrev main_call4_call2_v0 : Ref sig .tc := ⟨.hbm, 311, rfl⟩
abbrev main_call4_call2_v1 : Ref sig .tc := ⟨.hbm, 312, rfl⟩
abbrev main_call4_call2_v2 : Ref sig .tc := ⟨.hbm, 313, rfl⟩
abbrev main_call4_v40 : Ref sig .tc := ⟨.hbm, 314, rfl⟩
abbrev main_v135 : Ref sig .tc := ⟨.hbm, 315, rfl⟩

abbrev nD : Nat := 1
abbrev τ : Topo := Topo.v7x

variable {F : FTy → Type} [FloatOps F]
-- ==== Proof.Angle.lean ====
/- The angle of a gradient and the nine bins of the half circle, over the real numbers. -/
module

public import Mathlib.Analysis.SpecialFunctions.Trigonometric.Arctan
public import Mathlib.Tactic.Linarith
public import Mathlib.Tactic.FieldSimp
public import Mathlib.Tactic.Positivity
public import Mathlib.Tactic.NormNum
public import Mathlib.Tactic.Ring
public import Mathlib.Tactic.IntervalCases

@[expose] public section

noncomputable section

namespace Hog

open Real

/-- The angle of the point `(x, y)` by quadrant, in `(-π, π]`, and zero at the origin. -/
def ang (y x : ℝ) : ℝ :=
  if 0 < x then arctan (y / x)
  else if x < 0 then (if 0 ≤ y then arctan (y / x) + π else arctan (y / x) - π)
  else if 0 < y then π / 2 else if y < 0 then -(π / 2) else 0

/-- A nonzero point is a positive multiple of the unit vector at its angle. -/
theorem ang_polar (y x : ℝ) (h : y ≠ 0 ∨ x ≠ 0) :
    ∃ r, 0 < r ∧ y = r * sin (ang y x) ∧ x = r * cos (ang y x) := by
  have key : ∀ t : ℝ, sin (arctan t) = t * cos (arctan t) := fun t => by
    have := tan_arctan t
    rw [tan_eq_sin_div_cos, div_eq_iff (cos_arctan_pos t).ne'] at this
    exact this
  have hc := cos_arctan_pos (y / x)
  unfold ang
  split_ifs with h1 h2 h3 h4 h5
  · refine ⟨x / cos (arctan (y / x)), by positivity, ?_, ?_⟩
    · rw [key]; field_simp
    · field_simp
  · refine ⟨-x / cos (arctan (y / x)), div_pos (by linarith) hc, ?_, ?_⟩
    · have := h2.ne
      rw [sin_add_pi, key]; field_simp
    · rw [cos_add_pi]; field_simp
  · refine ⟨-x / cos (arctan (y / x)), div_pos (by linarith) hc, ?_, ?_⟩
    · have := h2.ne
      rw [sin_sub_pi, key]; field_simp
    · rw [cos_sub_pi]; field_simp
  · refine ⟨y, h4, by simp, ?_⟩
    simp; linarith
  · refine ⟨-y, by linarith, by simp, ?_⟩
    simp; linarith
  · exfalso
    rcases h with h | h <;> apply h <;> linarith

/-- The angle lies in `(-π, π]`. -/
theorem ang_range (y x : ℝ) : -π < ang y x ∧ ang y x ≤ π := by
  have h0 := pi_pos
  have ha := arctan_lt_pi_div_two (y / x)
  have hb := neg_pi_div_two_lt_arctan (y / x)
  unfold ang
  split_ifs with h1 h2 h3 h4 h5
  · constructor <;> linarith
  · have : arctan (y / x) ≤ 0 := by
      rw [← arctan_zero]
      exact arctan_strictMono.monotone (div_nonpos_of_nonneg_of_nonpos h3 h2.le)
    constructor <;> linarith
  · have : 0 < arctan (y / x) := by
      rw [← arctan_zero]
      exact arctan_strictMono (div_pos_of_neg_of_neg (by linarith) h2)
    constructor <;> linarith
  · constructor <;> linarith
  · constructor <;> linarith
  · constructor <;> linarith

/-- The reference's bin before its remainder: the angle in ninths of a half turn, rounded down. -/
def rawBin (gx gy : ℝ) : ℤ := ⌊ang gx gy * (1 / π) * 9⌋

/-- The reference's bin. -/
def bin (gx gy : ℝ) : ℤ := rawBin gx gy % 9

/-- The kernel's sign: it turns a gradient in the lower half plane by a half turn. -/
def flip (gx gy : ℝ) : ℝ := if gx < 0 ∨ (gx = 0 ∧ gy < 0) then -1 else 1

/-- The raw bin is between minus nine and nine. -/
theorem rawBin_range (gx gy : ℝ) : -9 ≤ rawBin gx gy ∧ rawBin gx gy ≤ 9 := by
  have h0 := pi_pos
  obtain ⟨h1, h2⟩ := ang_range gx gy
  have e : ang gx gy * (1 / π) * 9 = ang gx gy * 9 / π := by ring
  unfold rawBin
  rw [e]
  constructor
  · rw [Int.le_floor, le_div_iff₀ h0]; push_cast; nlinarith
  · have : (⌊ang gx gy * 9 / π⌋ : ℝ) ≤ 9 := (Int.floor_le _).trans (by rw [div_le_iff₀ h0]; nlinarith)
    exact_mod_cast this

/-- The bin is between zero and eight. -/
theorem bin_range (gx gy : ℝ) : 0 ≤ bin gx gy ∧ bin gx gy < 9 :=
  ⟨Int.emod_nonneg _ (by norm_num), Int.emod_lt_of_pos _ (by norm_num)⟩

/-- The turned gradient has an angle in `[0, π)`, whose ninth of a half turn is the bin. -/
theorem turned (gx gy : ℝ) (h : gx ≠ 0 ∨ gy ≠ 0) :
    ∃ r θ, 0 < r ∧ 0 ≤ θ ∧ θ < π ∧ gx * flip gx gy = r * sin θ ∧ gy * flip gx gy = r * cos θ
      ∧ ⌊θ * 9 / π⌋ = bin gx gy := by
  have h0 := pi_pos
  obtain ⟨r, hr, hy, hx⟩ := ang_polar gx gy h
  obtain ⟨h1, h2⟩ := ang_range gx gy
  have e : rawBin gx gy = ⌊ang gx gy * 9 / π⌋ := by unfold rawBin; congr 1; ring
  have hmod : ∀ θ : ℝ, 0 ≤ θ → θ < π → ⌊θ * 9 / π⌋ % 9 = ⌊θ * 9 / π⌋ := fun θ a b => by
    refine Int.emod_eq_of_lt (Int.floor_nonneg.mpr (by positivity)) (Int.floor_lt.mpr ?_)
    rw [div_lt_iff₀ h0]; push_cast; nlinarith
  rcases lt_trichotomy gx 0 with hg | hg | hg
  · -- below: the sine is negative, so the angle is
    have hs : sin (ang gx gy) < 0 := by nlinarith
    have ha : ang gx gy < 0 := by
      by_contra hc
      exact absurd (sin_nonneg_of_nonneg_of_le_pi (not_lt.mp hc) h2) (not_le.mpr hs)
    refine ⟨r, ang gx gy + π, hr, by linarith, by linarith, ?_, ?_, ?_⟩
    · rw [sin_add_pi]; simp only [flip, hg, true_or, if_true]; linarith
    · rw [cos_add_pi]; simp only [flip, hg, true_or, if_true]; linarith
    · have : (ang gx gy + π) * 9 / π = ang gx gy * 9 / π + (9 : ℤ) := by push_cast; field_simp
      rw [← hmod _ (by linarith) (by linarith), this, Int.floor_add_intCast, bin, e]
      omega
  · rcases lt_trichotomy gy 0 with hq | hq | hq
    · -- straight down: the angle is π
      have ha : ang gx gy = π := by
        unfold ang; simp [hg, hq, hq.not_gt]
      refine ⟨r, 0, hr, le_rfl, h0, ?_, ?_, ?_⟩
      · simp [hg]
      · rw [ha, cos_pi] at hx
        simp only [flip, hg, hq, lt_irrefl, false_or, and_self, if_true, cos_zero]; linarith
      · rw [bin, e, ha]
        have : π * 9 / π = ((9 : ℤ) : ℝ) := by push_cast; field_simp
        rw [this, Int.floor_intCast]; simp
    · simp [hg, hq] at h
    · have ha : ang gx gy = 0 := by unfold ang; simp [hg, hq]
      refine ⟨r, 0, hr, le_rfl, h0, ?_, ?_, ?_⟩
      · simp [hg]
      · rw [ha, cos_zero] at hx
        simp only [flip, hg, hq.not_gt, lt_irrefl, false_or, and_false, if_false, cos_zero]; linarith
      · rw [bin, e, ha]; simp
  · have hs : 0 < sin (ang gx gy) := by
      by_contra hc
      nlinarith
    have ha : 0 < ang gx gy := by
      by_contra hc
      exact absurd (sin_nonpos_of_nonpos_of_neg_pi_le (not_lt.mp hc) h1.le) (not_le.mpr hs)
    have hb : ang gx gy < π := by
      refine lt_of_le_of_ne h2 fun hc => ?_
      rw [hc, sin_pi] at hs; exact lt_irrefl _ hs
    have hf : flip gx gy = 1 := by simp [flip, hg.not_gt, hg.ne']
    refine ⟨r, ang gx gy, hr, ha.le, hb, ?_, ?_, ?_⟩
    · rw [hf, mul_one]; exact hy
    · rw [hf, mul_one]; exact hx
    · rw [bin, e, hmod _ ha.le hb]

/-- The two tests of edge `k` against the turned gradient say that the bin is at least `k`, and at least `9 - k`. -/
theorem edge_tests (gx gy : ℝ) (h : gx ≠ 0 ∨ gy ≠ 0) (k : ℕ) (hk : 1 ≤ k) (hk' : k ≤ 4) :
    (0 ≤ gx * flip gx gy * cos (k * π / 9) - gy * flip gx gy * sin (k * π / 9) ↔ (k : ℤ) ≤ bin gx gy)
    ∧ (gx * flip gx gy * cos (k * π / 9) + gy * flip gx gy * sin (k * π / 9) ≤ 0 ↔ 9 - (k : ℤ) ≤ bin gx gy) := by
  have h0 := pi_pos
  obtain ⟨r, θ, hr, hθ, hθ', hx, hy, hb⟩ := turned gx gy h
  have k1 : (1 : ℝ) ≤ k := by exact_mod_cast hk
  have k4 : (k : ℝ) ≤ 4 := by exact_mod_cast hk'
  have f1 : π / 9 ≤ k * π / 9 := by nlinarith
  have f4 : k * π / 9 ≤ 4 * π / 9 := by nlinarith
  rw [hx, hy, ← hb]
  constructor
  · have e : r * sin θ * cos (k * π / 9) - r * cos θ * sin (k * π / 9) = r * sin (θ - k * π / 9) := by
      rw [sin_sub]; ring
    rw [e, mul_nonneg_iff_of_pos_left hr, Int.le_floor, le_div_iff₀ h0]
    push_cast
    constructor
    · intro hs
      by_contra hc
      have : sin (θ - k * π / 9) < 0 := sin_neg_of_neg_of_neg_pi_lt (by linarith) (by linarith)
      linarith
    · intro hs
      exact sin_nonneg_of_nonneg_of_le_pi (by linarith) (by linarith)
  · have e : r * sin θ * cos (k * π / 9) + r * cos θ * sin (k * π / 9) = r * sin (θ + k * π / 9) := by
      rw [sin_add]; ring
    have g : (9 : ℤ) - (k : ℤ) ≤ ⌊θ * 9 / π⌋ ↔ (9 - (k : ℝ)) * π ≤ θ * 9 := by
      rw [Int.le_floor, le_div_iff₀ h0]; push_cast; rfl
    rw [e, g]
    constructor
    · intro hs
      by_contra hc
      have : 0 < sin (θ + k * π / 9) := sin_pos_of_pos_of_lt_pi (by linarith) (by linarith)
      nlinarith
    · intro hs
      have h2 : sin (θ + k * π / 9 - π) = -sin (θ + k * π / 9) := sin_sub_pi _
      have : 0 ≤ sin (θ + k * π / 9 - π) := sin_nonneg_of_nonneg_of_le_pi (by linarith) (by linarith)
      nlinarith

/-! ### The cosines and sines of the edges, to the last place of the rounded ones -/

/-- The cosine of a ninth of a half turn, between two decimals. -/
theorem cos_one : 0.93969262078 ≤ cos (π / 9) ∧ cos (π / 9) ≤ 0.93969262079 := by
  have h0 := pi_pos
  have h3 : cos (3 * (π / 9)) = 1 / 2 := by
    rw [show 3 * (π / 9) = π / 3 by ring]; exact cos_pi_div_three
  rw [cos_three_mul] at h3
  have hl : 1 / 2 < cos (π / 9) := by
    rw [← cos_pi_div_three]
    exact cos_lt_cos_of_nonneg_of_le_pi_div_two (by linarith) (by linarith) (by linarith)
  set c := cos (π / 9)
  constructor
  · by_contra hc
    push Not at hc
    nlinarith [mul_pos (sub_pos.mpr hc) (sub_pos.mpr hl), mul_pos (sub_pos.mpr hl) (sub_pos.mpr hl), mul_pos (mul_pos (sub_pos.mpr hc) (sub_pos.mpr hl)) (sub_pos.mpr hl)]
  · by_contra hc
    push Not at hc
    nlinarith [mul_pos (sub_pos.mpr hc) (sub_pos.mpr hl), mul_pos (sub_pos.mpr hl) (sub_pos.mpr hl), mul_pos (mul_pos (sub_pos.mpr hc) (sub_pos.mpr hl)) (sub_pos.mpr hl)]

/-- The cosine of two ninths. -/
theorem cos_two : 0.76604444307 ≤ cos (2 * π / 9) ∧ cos (2 * π / 9) ≤ 0.76604444316 := by
  have e : cos (2 * π / 9) = 2 * cos (π / 9) ^ 2 - 1 := by rw [← cos_two_mul]; congr 1; ring
  obtain ⟨a, b⟩ := cos_one
  rw [e]
  constructor <;> nlinarith

/-- The cosine of four ninths. -/
theorem cos_four : 0.1736481774 ≤ cos (4 * π / 9) ∧ cos (4 * π / 9) ≤ 0.1736481779 := by
  have e : cos (4 * π / 9) = 2 * cos (2 * π / 9) ^ 2 - 1 := by rw [← cos_two_mul]; congr 1; ring
  obtain ⟨a, b⟩ := cos_two
  rw [e]
  constructor <;> nlinarith

/-- A sine from bounds on its cosine. -/
theorem sin_bounds (t lo hi a b : ℝ) (h : 0 ≤ t) (h' : t ≤ π) (hl : lo ≤ cos t) (hh : cos t ≤ hi)
    (h0 : 0 ≤ lo) (b0 : 0 ≤ b) (ha : a ^ 2 ≤ 1 - hi ^ 2) (hb : 1 - lo ^ 2 ≤ b ^ 2) : a ≤ sin t ∧ sin t ≤ b := by
  have hs := sin_nonneg_of_nonneg_of_le_pi h h'
  have e := sin_sq_add_cos_sq t
  constructor
  · exact le_of_sq_le_sq (by nlinarith) hs
  · exact abs_le_of_sq_le_sq' (by nlinarith) b0 |>.2

/-- The kernel's cosine of edge `k`: the single-precision number nearest the cosine. -/
def edgeC : ℕ → ℝ
  | 1 => 15765426 / 2 ^ 24
  | 2 => 12852093 / 2 ^ 24
  | 3 => 1 / 2
  | _ => 11653332 / 2 ^ 26

/-- The kernel's sine of edge `k`. -/
def edgeS : ℕ → ℝ
  | 1 => 11476292 / 2 ^ 25
  | 2 => 10784187 / 2 ^ 24
  | 3 => 14529495 / 2 ^ 24
  | _ => 16522332 / 2 ^ 24

/-- Each rounded cosine and sine is within three parts in a hundred million of the exact one. -/
theorem edge_close (k : ℕ) (hk : 1 ≤ k) (hk' : k ≤ 4) :
    |edgeC k - cos (k * π / 9)| ≤ 3e-8 ∧ |edgeS k - sin (k * π / 9)| ≤ 3e-8 := by
  have h0 := pi_pos
  interval_cases k
  · obtain ⟨a, b⟩ := cos_one
    obtain ⟨c, d⟩ := sin_bounds (π / 9) _ _ 0.342020143 0.342020144 (by linarith) (by linarith) a b
      (by norm_num) (by norm_num) (by norm_num) (by norm_num)
    simp only [edgeC, edgeS, Nat.cast_one, one_mul, abs_le]
    refine ⟨⟨?_, ?_⟩, ?_, ?_⟩ <;> norm_num <;> linarith
  · obtain ⟨a, b⟩ := cos_two
    obtain ⟨c, d⟩ := sin_bounds (2 * π / 9) _ _ 0.642787609 0.642787610 (by linarith) (by linarith) a b
      (by norm_num) (by norm_num) (by norm_num) (by norm_num)
    simp only [edgeC, edgeS, Nat.cast_ofNat, abs_le]
    refine ⟨⟨?_, ?_⟩, ?_, ?_⟩ <;> norm_num <;> linarith
  · have e : 3 * π / 9 = π / 3 := by ring
    have a := cos_pi_div_three
    obtain ⟨c, d⟩ := sin_bounds (π / 3) (1 / 2) (1 / 2) 0.866025403 0.866025404 (by linarith) (by linarith) a.ge a.le
      (by norm_num) (by norm_num) (by norm_num) (by norm_num)
    simp only [edgeC, edgeS, Nat.cast_ofNat, abs_le, e, a]
    generalize sin (π / 3) = q at c d
    refine ⟨⟨?_, ?_⟩, ?_, ?_⟩ <;> norm_num <;> linarith
  · obtain ⟨a, b⟩ := cos_four
    obtain ⟨c, d⟩ := sin_bounds (4 * π / 9) _ _ 0.984807752 0.984807754 (by linarith) (by linarith) a b
      (by norm_num) (by norm_num) (by norm_num) (by norm_num)
    simp only [edgeC, edgeS, Nat.cast_ofNat, abs_le]
    refine ⟨⟨?_, ?_⟩, ?_, ?_⟩ <;> norm_num <;> linarith

/-- A number at least as far from zero as `d`, and a second one nearer to it than `d`, have one sign. -/
theorem same_sign (a b d : ℝ) (h : d ≤ |a|) (h' : |a - b| < d) : (0 ≤ a ↔ 0 ≤ b) ∧ (a ≤ 0 ↔ b ≤ 0) := by
  rw [abs_lt] at h'
  rcases abs_cases a with ⟨e, g⟩ | ⟨e, g⟩ <;> rw [e] at h <;>
    exact ⟨⟨fun _ => by linarith, fun _ => by linarith⟩, ⟨fun _ => by linarith, fun _ => by linarith⟩⟩

/-- A gradient is clear of the edges: of every edge, by the margin the rounding of its cosine and sine needs. -/
def Clear (gx gy : ℝ) : Prop :=
  ∀ k : ℕ, 1 ≤ k → k ≤ 4 → (|gx| + |gy|) * (1 / 2 ^ 24) ≤ |gx * edgeC k - gy * edgeS k|
    ∧ (|gx| + |gy|) * (1 / 2 ^ 24) ≤ |gx * edgeC k + gy * edgeS k|

/-- The sign is one or minus one. -/
theorem flip_cases (gx gy : ℝ) : flip gx gy = 1 ∨ flip gx gy = -1 := by
  unfold flip; split_ifs <;> simp

/-- The kernel's tests, with their rounded numbers, of a gradient that is clear of the edges. -/
theorem rounded_tests (gx gy : ℝ) (h : gx ≠ 0 ∨ gy ≠ 0) (hc : Clear gx gy) (k : ℕ) (hk : 1 ≤ k) (hk' : k ≤ 4) :
    (0 ≤ gx * flip gx gy * edgeC k - gy * flip gx gy * edgeS k ↔ (k : ℤ) ≤ bin gx gy)
    ∧ (gx * flip gx gy * edgeC k + gy * flip gx gy * edgeS k ≤ 0 ↔ 9 - (k : ℤ) ≤ bin gx gy) := by
  obtain ⟨e1, e2⟩ := edge_tests gx gy h k hk hk'
  obtain ⟨c1, c2⟩ := hc k hk hk'
  obtain ⟨d1, d2⟩ := edge_close k hk hk'
  have hpos : 0 < |gx| + |gy| := by
    rcases h with h | h
    · have := abs_pos.mpr h; positivity
    · have := abs_pos.mpr h; positivity
  have hf : |flip gx gy| = 1 := by rcases flip_cases gx gy with e | e <;> simp [e]
  set f := flip gx gy
  set c := cos (k * π / 9)
  set s := sin (k * π / 9)
  have b1 : |gx * (edgeC k - c)| ≤ |gx| * 3e-8 := by rw [abs_mul]; gcongr
  have b2 : |gy * (edgeS k - s)| ≤ |gy| * 3e-8 := by rw [abs_mul]; gcongr
  have m : (|gx| + |gy|) * 3e-8 < (|gx| + |gy|) * (1 / 2 ^ 24) := by
    apply mul_lt_mul_of_pos_left _ hpos; norm_num
  constructor
  · rw [← e1]
    refine (same_sign _ _ ((|gx| + |gy|) * (1 / 2 ^ 24)) ?_ ?_).1
    · rw [show gx * f * edgeC k - gy * f * edgeS k = f * (gx * edgeC k - gy * edgeS k) by ring, abs_mul, hf, one_mul]
      exact c1
    · rw [show gx * f * edgeC k - gy * f * edgeS k - (gx * f * c - gy * f * s)
        = f * (gx * (edgeC k - c) - gy * (edgeS k - s)) by ring, abs_mul, hf, one_mul]
      have := abs_sub (gx * (edgeC k - c)) (gy * (edgeS k - s))
      linarith
  · rw [← e2]
    refine (same_sign _ _ ((|gx| + |gy|) * (1 / 2 ^ 24)) ?_ ?_).2
    · rw [show gx * f * edgeC k + gy * f * edgeS k = f * (gx * edgeC k + gy * edgeS k) by ring, abs_mul, hf, one_mul]
      exact c2
    · rw [show gx * f * edgeC k + gy * f * edgeS k - (gx * f * c + gy * f * s)
        = f * (gx * (edgeC k - c) + gy * (edgeS k - s)) by ring, abs_mul, hf, one_mul]
      have := abs_add_le (gx * (edgeC k - c)) (gy * (edgeS k - s))
      linarith

/-- What the kernel selects at edge `k` of the lower half: the magnitude where the bin is at least `k`. -/
theorem select_low (gx gy w : ℝ) (hc : Clear gx gy) (k : ℕ) (hk : 1 ≤ k) (hk' : k ≤ 4) :
    (if 0 ≤ gx * flip gx gy * edgeC k - gy * flip gx gy * edgeS k then sqrt (gx * gx + gy * gy) * w else 0)
      = if (k : ℤ) ≤ bin gx gy then sqrt (gx * gx + gy * gy) * w else 0 := by
  by_cases h : gx ≠ 0 ∨ gy ≠ 0
  · simp only [(rounded_tests gx gy h hc k hk hk').1]
  · push Not at h
    simp [h.1, h.2]

/-- What the kernel selects at edge `9 - k`. -/
theorem select_high (gx gy w : ℝ) (hc : Clear gx gy) (k : ℕ) (hk : 1 ≤ k) (hk' : k ≤ 4) :
    (if gx * flip gx gy * edgeC k + gy * flip gx gy * edgeS k ≤ 0 then sqrt (gx * gx + gy * gy) * w else 0)
      = if 9 - (k : ℤ) ≤ bin gx gy then sqrt (gx * gx + gy * gy) * w else 0 := by
  by_cases h : gx ≠ 0 ∨ gy ≠ 0
  · simp only [(rounded_tests gx gy h hc k hk hk').2]
  · push Not at h
    simp [h.1, h.2]

end Hog
-- ==== Proof.Spec.lean ====
/- What both programs compute, over the real numbers: the histogram of gradient directions of 8 by 8 cells, enlarged
   to the picture's size. Rows, columns and bins are natural numbers. -/
module

public import proofs.«01_k».proof.Proof.Angle
public import Idealize.ShloMosaic.PureOps.Ideal
public import Mathlib.Algebra.BigOperators.Fin

@[expose] public section

noncomputable section

namespace Hog

open Idealize.ShloMosaic

/-- The picture's row or column that a padded row or column shows: one line is reflected at either end. -/
def rf (n : ℕ) : ℕ := if n < 1 then 1 else if n - 1 < 224 then n - 1 else 222

/-- The padded picture. -/
def P (X : ℕ → ℕ → ℝ) (y x : ℕ) : ℝ := X (rf y) (rf x)

/-- The horizontal Sobel gradient. -/
def GX (X : ℕ → ℕ → ℝ) (y x : ℕ) : ℝ :=
  P X y x + 2 * P X (1 + y) x + P X (2 + y) x - (P X y (2 + x) + 2 * P X (1 + y) (2 + x) + P X (2 + y) (2 + x))

/-- The vertical Sobel gradient. -/
def GY (X : ℕ → ℕ → ℝ) (y x : ℕ) : ℝ :=
  P X y x - P X (2 + y) x + 2 * (P X y (1 + x) - P X (2 + y) (1 + x)) + (P X y (2 + x) - P X (2 + y) (2 + x))

/-- The gradient's length weighted by the window, which repeats every sixteen lines. -/
def mag (X K : ℕ → ℕ → ℝ) (y x : ℕ) : ℝ :=
  Real.sqrt (GX X y x * GX X y x + GY X y x * GY X y x) * K (y % 16) (x % 16)

/-- The bin of a pixel. -/
def pixBin (X : ℕ → ℕ → ℝ) (y x : ℕ) : ℤ := bin (GX X y x) (GY X y x)

/-- What a pixel adds to bin `k`. -/
def vote (X K : ℕ → ℕ → ℝ) (k y x : ℕ) : ℝ := if pixBin X y x = k then mag X K y x else 0

/-- The histogram of cell `(i, c)`. -/
def cell (X K : ℕ → ℕ → ℝ) (k i c : ℕ) : ℝ := ∑ r : Fin 8, ∑ s : Fin 8, vote X K k (8 * i + r) (8 * c + s)

/-- Sixteen times the weight of cell line `i` in the enlarged line `y`. -/
def N (y i : ℕ) : ℕ :=
  if y < 4 then (if i = 0 then 16 else 0)
  else if 220 ≤ y then (if i = 27 then 16 else 0)
  else 16 - ((2 * y - (16 * i + 7)) + ((16 * i + 7) - 2 * y))

/-- The weight of cell line `i` in the enlarged line `y`. -/
def hat (y i : ℕ) : ℝ := N y i / 16

/-- The result at bin `k`, row `y`, column `x`. -/
def out (X K : ℕ → ℕ → ℝ) (k y x : ℕ) : ℝ :=
  ∑ c : Fin 28, (∑ i : Fin 28, hat y i * cell X K k i c) * hat x c

theorem N_le (y i : ℕ) : N y i ≤ 16 := by
  unfold N; split_ifs <;> omega

/-! ### Sums over a block -/

/-- A sum over 224 lines of what lies in cell line `c` is the sum over the cell line's eight lines. -/
theorem sum_block (f : ℕ → ℝ) (c : ℕ) (hc : c < 28) :
    ∑ x : Fin 224, f x * (if (x : ℕ) / 8 = c then (1 : ℝ) else 0) = ∑ s : Fin 8, f (8 * c + s) := by
  have e : ∑ x : Fin 224, f x * (if (x : ℕ) / 8 = c then (1 : ℝ) else 0)
      = ∑ x ∈ Finset.univ.filter (fun x : Fin 224 => (x : ℕ) / 8 = c), f (x : ℕ) := by
    rw [Finset.sum_filter]; exact Finset.sum_congr rfl fun x _ => by split_ifs <;> simp
  rw [e]
  symm
  refine Finset.sum_bij (fun (s : Fin 8) _ => (⟨8 * c + s, by omega⟩ : Fin 224)) ?_ ?_ ?_ ?_
  · intro s _; simp; omega
  · intro a _ b _ h; simp [Fin.ext_iff] at h; exact Fin.ext (by omega)
  · intro b hb
    simp at hb
    exact ⟨⟨b - 8 * c, by omega⟩, Finset.mem_univ _, Fin.ext (by simp; omega)⟩
  · intro s _; rfl

/-- A sum over 9 times 28 lines of what lies in block `k` is the sum over the block's 28 lines. -/
theorem sum_bin (f g : ℕ → ℝ) (k : ℕ) (hk : k < 9) :
    ∑ j : Fin 252, (if k = (j : ℕ) / 28 then (1 : ℝ) else 0) * g ((j : ℕ) % 28) * f j = ∑ i : Fin 28, g i * f (28 * k + i) := by
  have e : ∑ j : Fin 252, (if k = (j : ℕ) / 28 then (1 : ℝ) else 0) * g ((j : ℕ) % 28) * f j
      = ∑ j ∈ Finset.univ.filter (fun j : Fin 252 => k = (j : ℕ) / 28), g ((j : ℕ) % 28) * f (j : ℕ) := by
    rw [Finset.sum_filter]; exact Finset.sum_congr rfl fun x _ => by split_ifs <;> simp
  rw [e]
  symm
  refine Finset.sum_bij (fun (i : Fin 28) _ => (⟨28 * k + i, by omega⟩ : Fin 252)) ?_ ?_ ?_ ?_
  · intro s _; simp; omega
  · intro a _ b _ h; simp [Fin.ext_iff] at h; exact Fin.ext (by omega)
  · intro b hb
    simp at hb
    exact ⟨⟨b - 28 * k, by omega⟩, Finset.mem_univ _, Fin.ext (by simp; omega)⟩
  · intro s _
    have : (28 * k + (s : ℕ)) % 28 = s := by omega
    simp [this]

/-! ### The numbers of the words -/

/-- The word of `n` sixteenths. -/
def word : ℕ → BitVec 32
  | 0 => 0x00000000#32
  | 1 => 0x3D800000#32
  | 2 => 0x3E000000#32
  | 3 => 0x3E400000#32
  | 4 => 0x3E800000#32
  | 5 => 0x3EA00000#32
  | 6 => 0x3EC00000#32
  | 7 => 0x3EE00000#32
  | 8 => 0x3F000000#32
  | 9 => 0x3F100000#32
  | 10 => 0x3F200000#32
  | 11 => 0x3F300000#32
  | 12 => 0x3F400000#32
  | 13 => 0x3F500000#32
  | 14 => 0x3F600000#32
  | 15 => 0x3F700000#32
  | _ => 0x3F800000#32

/-- It is the word of `n` sixteenths. -/
theorem ofBits_word (n : ℕ) (h : n ≤ 16) : Ideal.ofBits .f32 (word n) = ((n / 16 : ℝ) : EReal) := by
  interval_cases n <;> simp [word, Ideal.ofBits, Ideal.ieee, -EReal.coe_mul] <;> norm_num

/-- The word of two. -/
theorem ofBits_two : Ideal.ofBits .f32 0x40000000#32 = ((2 : ℝ) : EReal) := by
  simp [Ideal.ofBits, Ideal.ieee, -EReal.coe_mul]; norm_num

/-- The word of minus one. -/
theorem ofBits_neg_one : Ideal.ofBits .f32 0xBF800000#32 = ((-1 : ℝ) : EReal) := by
  simp [Ideal.ofBits, Ideal.ieee, -EReal.coe_mul]; norm_num

/-- The word of nine. -/
theorem ofBits_nine : Ideal.ofBits .f32 0x41100000#32 = ((9 : ℝ) : EReal) := by
  simp [Ideal.ofBits, Ideal.ieee, -EReal.coe_mul]; norm_num

/-- The words of the rounded cosines and sines. -/
theorem ofBits_c1 : Ideal.ofBits .f32 0x3F708FB2#32 = ((edgeC 1 : ℝ) : EReal) := by
  simp [Ideal.ofBits, Ideal.ieee, edgeC, -EReal.coe_mul]; norm_num
theorem ofBits_s1 : Ideal.ofBits .f32 0x3EAF1D44#32 = ((edgeS 1 : ℝ) : EReal) := by
  simp [Ideal.ofBits, Ideal.ieee, edgeS, -EReal.coe_mul]; norm_num
theorem ofBits_c2 : Ideal.ofBits .f32 0x3F441B7D#32 = ((edgeC 2 : ℝ) : EReal) := by
  simp [Ideal.ofBits, Ideal.ieee, edgeC, -EReal.coe_mul]; norm_num
theorem ofBits_s2 : Ideal.ofBits .f32 0x3F248DBB#32 = ((edgeS 2 : ℝ) : EReal) := by
  simp [Ideal.ofBits, Ideal.ieee, edgeS, -EReal.coe_mul]; norm_num
theorem ofBits_c3 : Ideal.ofBits .f32 0x3F000000#32 = ((edgeC 3 : ℝ) : EReal) := by
  simp [Ideal.ofBits, Ideal.ieee, edgeC, -EReal.coe_mul]; norm_num
theorem ofBits_s3 : Ideal.ofBits .f32 0x3F5DB3D7#32 = ((edgeS 3 : ℝ) : EReal) := by
  simp [Ideal.ofBits, Ideal.ieee, edgeS, -EReal.coe_mul]; norm_num
theorem ofBits_c4 : Ideal.ofBits .f32 0x3E31D0D4#32 = ((edgeC 4 : ℝ) : EReal) := by
  simp [Ideal.ofBits, Ideal.ieee, edgeC, -EReal.coe_mul]; norm_num
theorem ofBits_s4 : Ideal.ofBits .f32 0x3F7C1C5C#32 = ((edgeS 4 : ℝ) : EReal) := by
  simp [Ideal.ofBits, Ideal.ieee, edgeS, -EReal.coe_mul]; norm_num

/-- The word of the margin. -/
theorem ofBits_room : Ideal.ofBits .f32 0x33800000#32 = ((1 / 2 ^ 24 : ℝ) : EReal) := by
  simp [Ideal.ofBits, Ideal.ieee, -EReal.coe_mul]; norm_num

/-- The word of one eighth. -/
theorem ofBits_eighth : Ideal.ofBits .f32 0x3E000000#32 = ((1 / 8 : ℝ) : EReal) := by
  simp [Ideal.ofBits, Ideal.ieee, -EReal.coe_mul]; norm_num

/-- The word of one half. -/
theorem ofBits_half : Ideal.ofBits .f32 0x3F000000#32 = ((1 / 2 : ℝ) : EReal) := by
  simp [Ideal.ofBits, Ideal.ieee, -EReal.coe_mul]; norm_num

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

end Hog
-- ==== Proof.Ker.lean ====
/- The kernel's block, entry by entry: its payloads over real blocks are the specification's values. -/
module

public import proofs.«01_k».proof.Proof.Spec
public import proofs.«01_k».proof.Proof.Gen.KernelIdeal.Value
public import Idealize.ShloMosaic.Lib.Pipeline.ValueKit
public import Idealize.ShloMosaic.Lib.Pointwise

@[expose] public section

set_option maxRecDepth 16384

noncomputable section

namespace Hog.Ker

open Cert.KernelIdeal Cert.KernelIdeal.Gen Idealize.ShloMosaic Idealize.ShloMosaic.TcCoe Idealize.SL.Sem

/-- A square picture whose entries are reals. -/
def Is (f : FVec Ideal S224x224 .f32) (g : ℕ → ℕ → ℝ) : Prop := ∀ a, f a = ((g (a 0) (a 1) : ℝ) : EReal)

/-! ### Gradients -/

variable {v0 : Vec Ideal S1x1x224x224 .f32} {X : ℕ → ℕ → ℝ}

/-- The block of the picture, padded. -/
theorem pay2_at (h : ∀ a, v0 a = ((X (a 2) (a 3) : ℝ) : EReal)) (y : S226x226.Idx) :
    k0_pay2 (F := Ideal) v0 y = ((P X (y 0) (y 1) : ℝ) : EReal) := by
  have hv : ∀ i j : Fin 224, v0 (ix4 0 0 i j) = ((X i j : ℝ) : EReal) := fun i j => h _
  have e : ∀ a b : ℕ, a = rf (y 0) → b = rf (y 1) → ((X a b : ℝ) : EReal) = ((P X (y 0) (y 1) : ℝ) : EReal) :=
    fun a b ha hb => by rw [ha, hb]; rfl
  have h0 : (y 0 : ℕ) < 226 := (y 0).isLt
  have h1 : (y 1 : ℕ) < 226 := (y 1).isLt
  pointwise [k0_pay2]
  simp only [hv]
  split_ifs <;> apply e <;> simp only [rf] <;> split_ifs <;> omega

/-- The horizontal gradient. -/
theorem pay3_at (h : ∀ a, v0 a = ((X (a 2) (a 3) : ℝ) : EReal)) : Is (k0_pay3 (F := Ideal) v0) (GX X) := by
  intro y
  have hp := pay2_at h
  generalize k0_pay2 (F := Ideal) v0 = p at hp
  have hv : ∀ i j : Fin 226, p (ix2 i j) = ((P X i j : ℝ) : EReal) := fun i j => hp _
  have hq : k0_pay2 (F := Ideal) v0 = p := funext fun a => (pay2_at h a).trans (hp a).symm
  pointwise [k0_pay3, hq]
  simp only [hv, ofBits_two, GX, EReal.coe_add, EReal.coe_sub, EReal.coe_mul]

/-- The vertical gradient. -/
theorem pay4_at (h : ∀ a, v0 a = ((X (a 2) (a 3) : ℝ) : EReal)) : Is (k0_pay4 (F := Ideal) v0) (GY X) := by
  intro y
  have hp := pay2_at h
  generalize k0_pay2 (F := Ideal) v0 = p at hp
  have hv : ∀ i j : Fin 226, p (ix2 i j) = ((P X i j : ℝ) : EReal) := fun i j => hp _
  have hq : k0_pay2 (F := Ideal) v0 = p := funext fun a => (pay2_at h a).trans (hp a).symm
  pointwise [k0_pay4, hq]
  simp only [hv, ofBits_two, GY, EReal.coe_add, EReal.coe_sub, EReal.coe_mul]

/-- The weighted length of the gradient. -/
theorem pay5_at {v34 : Vec Ideal S224x224 .f32} {K : ℕ → ℕ → ℝ} (h : ∀ a, v0 a = ((X (a 2) (a 3) : ℝ) : EReal))
    (hk : Is v34 (fun y x => K (y % 16) (x % 16))) : Is (k0_pay5 (F := Ideal) v0 v34) (mag X K) := by
  intro y
  have h3 := pay3_at h
  have h4 := pay4_at h
  pointwise [k0_pay5]
  rw [h3, h4, hk, ← EReal.coe_mul, ← EReal.coe_mul, ← EReal.coe_add, Ideal.sqrt_coe, if_neg (by nlinarith [sq_nonneg (GX X (y 0) (y 1)), sq_nonneg (GY X (y 0) (y 1))]), ← EReal.coe_mul]
  rfl

/-- The sign by which the gradient is turned into the upper half plane. -/
theorem pay9_at (h : ∀ a, v0 a = ((X (a 2) (a 3) : ℝ) : EReal)) :
    Is (k0_pay9 (F := Ideal) (k0_pay6 v0) k0_pay7 k0_pay8) (fun y x => flip (GX X y x) (GY X y x)) := by
  intro y
  have h3 := pay3_at h
  have h4 := pay4_at h
  pointwise [k0_pay9, k0_pay6, k0_pay7, k0_pay8]
  rw [h3, h4]
  simp only [ofBits_neg_one, EReal.coe_neg', EReal.coe_eq_zero, flip, Scalar.select]
  by_cases a : GX X (y 0) (y 1) < 0 <;> by_cases b : GX X (y 0) (y 1) = 0 <;> by_cases c : GY X (y 0) (y 1) < 0 <;>
    simp [a, b, c, IntOp.ori, IntOp.andi]

/-! ### Selections -/

/-- A test of the lower edges, and the selection by it. -/
theorem low_at {a b f w : EReal} {cb sb : BitVec 32} {gx gy m c s g : ℝ} (ha : a = gx) (hb : b = gy) (hf : f = g) (hw : w = m)
    (hc : Ideal.ofBits .f32 cb = c) (hs : Ideal.ofBits .f32 sb = s) :
    (if 0 ≤ a * f * Ideal.ofBits .f32 cb - b * f * Ideal.ofBits .f32 sb then w else 0)
      = ((if 0 ≤ gx * g * c - gy * g * s then m else 0 : ℝ) : EReal) := by
  subst ha hb hf hw
  have e : (gx : EReal) * g * c - gy * g * s = ((gx * g * c - gy * g * s : ℝ) : EReal) := by push_cast; rfl
  simp only [hc, hs, e, EReal.coe_nonneg]
  by_cases q : 0 ≤ gx * g * c - gy * g * s
  · rw [if_pos q, if_pos q]
  · rw [if_neg q, if_neg q, EReal.coe_zero]

/-- A test of the upper edges, and the selection by it. -/
theorem high_at {a b f w : EReal} {cb sb : BitVec 32} {gx gy m c s g : ℝ} (ha : a = gx) (hb : b = gy) (hf : f = g) (hw : w = m)
    (hc : Ideal.ofBits .f32 cb = c) (hs : Ideal.ofBits .f32 sb = s) :
    (if a * f * Ideal.ofBits .f32 cb + b * f * Ideal.ofBits .f32 sb ≤ 0 then w else 0)
      = ((if gx * g * c + gy * g * s ≤ 0 then m else 0 : ℝ) : EReal) := by
  subst ha hb hf hw
  have e : (gx : EReal) * g * c + gy * g * s = ((gx * g * c + gy * g * s : ℝ) : EReal) := by push_cast; rfl
  simp only [hc, hs, e, ← EReal.coe_zero, EReal.coe_le_coe_iff]
  by_cases q : gx * g * c + gy * g * s ≤ 0
  · rw [if_pos q, if_pos q]
  · rw [if_neg q, if_neg q]

/-- The magnitude where the bin is at least `k`. -/
def sel (X K : ℕ → ℕ → ℝ) (k y x : ℕ) : ℝ := if (k : ℤ) ≤ pixBin X y x then mag X K y x else 0

section Sel
variable {K : ℕ → ℕ → ℝ} {w : FVec Ideal S224x224 .f32}
  (h : ∀ a, v0 a = ((X (a 2) (a 3) : ℝ) : EReal)) (hw : Is w (mag X K))
  (hc : ∀ y x, y < 224 → x < 224 → Clear (GX X y x) (GY X y x))
include h hw hc

theorem sel1 : Is (select (k0_pay14 (F := Ideal) (k0_pay3 v0) (k0_pay4 v0) (k0_pay6 v0) k0_pay7 k0_pay8) w (broadcast S224x224 (Scalar.ofBits .f32 0x00000000#32))) (sel X K 1) := by
  intro y
  have h9 := pay9_at h y
  generalize hn : k0_pay9 (F := Ideal) (k0_pay6 v0) k0_pay7 k0_pay8 = n at h9
  pointwise [k0_pay14, k0_pay12, k0_pay13, k0_pay10, k0_pay11, hn]
  rw [low_at (pay3_at h y) (pay4_at h y) h9 (hw y) ofBits_c1 ofBits_s1]
  exact congrArg _ (select_low _ _ _ (hc _ _ (y 0).isLt (y 1).isLt) 1 (by norm_num) (by norm_num))

theorem sel2 : Is (select (k0_pay18 (F := Ideal) (k0_pay3 v0) (k0_pay4 v0) (k0_pay6 v0) k0_pay7 k0_pay8) w (broadcast S224x224 (Scalar.ofBits .f32 0x00000000#32))) (sel X K 2) := by
  intro y
  have h9 := pay9_at h y
  generalize hn : k0_pay9 (F := Ideal) (k0_pay6 v0) k0_pay7 k0_pay8 = n at h9
  pointwise [k0_pay18, k0_pay16, k0_pay17, k0_pay10, k0_pay11, hn]
  rw [low_at (pay3_at h y) (pay4_at h y) h9 (hw y) ofBits_c2 ofBits_s2]
  exact congrArg _ (select_low _ _ _ (hc _ _ (y 0).isLt (y 1).isLt) 2 (by norm_num) (by norm_num))

theorem sel3 : Is (select (k0_pay22 (F := Ideal) (k0_pay3 v0) (k0_pay4 v0) (k0_pay6 v0) k0_pay7 k0_pay8) w (broadcast S224x224 (Scalar.ofBits .f32 0x00000000#32))) (sel X K 3) := by
  intro y
  have h9 := pay9_at h y
  generalize hn : k0_pay9 (F := Ideal) (k0_pay6 v0) k0_pay7 k0_pay8 = n at h9
  pointwise [k0_pay22, k0_pay20, k0_pay21, k0_pay10, k0_pay11, hn]
  rw [low_at (pay3_at h y) (pay4_at h y) h9 (hw y) ofBits_c3 ofBits_s3]
  exact congrArg _ (select_low _ _ _ (hc _ _ (y 0).isLt (y 1).isLt) 3 (by norm_num) (by norm_num))

theorem sel4 : Is (select (k0_pay26 (F := Ideal) (k0_pay3 v0) (k0_pay4 v0) (k0_pay6 v0) k0_pay7 k0_pay8) w (broadcast S224x224 (Scalar.ofBits .f32 0x00000000#32))) (sel X K 4) := by
  intro y
  have h9 := pay9_at h y
  generalize hn : k0_pay9 (F := Ideal) (k0_pay6 v0) k0_pay7 k0_pay8 = n at h9
  pointwise [k0_pay26, k0_pay24, k0_pay25, k0_pay10, k0_pay11, hn]
  rw [low_at (pay3_at h y) (pay4_at h y) h9 (hw y) ofBits_c4 ofBits_s4]
  exact congrArg _ (select_low _ _ _ (hc _ _ (y 0).isLt (y 1).isLt) 4 (by norm_num) (by norm_num))

theorem sel5 : Is (select (k0_pay27 (F := Ideal) (k0_pay3 v0) (k0_pay4 v0) (k0_pay6 v0) k0_pay7 k0_pay8) w (broadcast S224x224 (Scalar.ofBits .f32 0x00000000#32))) (sel X K 5) := by
  intro y
  have h9 := pay9_at h y
  generalize hn : k0_pay9 (F := Ideal) (k0_pay6 v0) k0_pay7 k0_pay8 = n at h9
  pointwise [k0_pay27, k0_pay24, k0_pay25, k0_pay10, k0_pay11, hn]
  rw [high_at (pay3_at h y) (pay4_at h y) h9 (hw y) ofBits_c4 ofBits_s4]
  exact congrArg _ (select_high _ _ _ (hc _ _ (y 0).isLt (y 1).isLt) 4 (by norm_num) (by norm_num))

theorem sel6 : Is (select (k0_pay23 (F := Ideal) (k0_pay3 v0) (k0_pay4 v0) (k0_pay6 v0) k0_pay7 k0_pay8) w (broadcast S224x224 (Scalar.ofBits .f32 0x00000000#32))) (sel X K 6) := by
  intro y
  have h9 := pay9_at h y
  generalize hn : k0_pay9 (F := Ideal) (k0_pay6 v0) k0_pay7 k0_pay8 = n at h9
  pointwise [k0_pay23, k0_pay20, k0_pay21, k0_pay10, k0_pay11, hn]
  rw [high_at (pay3_at h y) (pay4_at h y) h9 (hw y) ofBits_c3 ofBits_s3]
  exact congrArg _ (select_high _ _ _ (hc _ _ (y 0).isLt (y 1).isLt) 3 (by norm_num) (by norm_num))

theorem sel7 : Is (select (k0_pay19 (F := Ideal) (k0_pay3 v0) (k0_pay4 v0) (k0_pay6 v0) k0_pay7 k0_pay8) w (broadcast S224x224 (Scalar.ofBits .f32 0x00000000#32))) (sel X K 7) := by
  intro y
  have h9 := pay9_at h y
  generalize hn : k0_pay9 (F := Ideal) (k0_pay6 v0) k0_pay7 k0_pay8 = n at h9
  pointwise [k0_pay19, k0_pay16, k0_pay17, k0_pay10, k0_pay11, hn]
  rw [high_at (pay3_at h y) (pay4_at h y) h9 (hw y) ofBits_c2 ofBits_s2]
  exact congrArg _ (select_high _ _ _ (hc _ _ (y 0).isLt (y 1).isLt) 2 (by norm_num) (by norm_num))

theorem sel8 : Is (select (k0_pay15 (F := Ideal) (k0_pay3 v0) (k0_pay4 v0) (k0_pay6 v0) k0_pay7 k0_pay8) w (broadcast S224x224 (Scalar.ofBits .f32 0x00000000#32))) (sel X K 8) := by
  intro y
  have h9 := pay9_at h y
  generalize hn : k0_pay9 (F := Ideal) (k0_pay6 v0) k0_pay7 k0_pay8 = n at h9
  pointwise [k0_pay15, k0_pay12, k0_pay13, k0_pay10, k0_pay11, hn]
  rw [high_at (pay3_at h y) (pay4_at h y) h9 (hw y) ofBits_c1 ofBits_s1]
  exact congrArg _ (select_high _ _ _ (hc _ _ (y 0).isLt (y 1).isLt) 1 (by norm_num) (by norm_num))

end Sel

/-- Below every bin the magnitude is selected. -/
theorem sel0 (K : ℕ → ℕ → ℝ) (y x : ℕ) : mag X K y x = sel X K 0 y x := by
  unfold sel pixBin
  rw [if_pos (by exact_mod_cast (bin_range _ _).1)]

/-- What is selected for a bin less what is selected for the next is the pixel's vote. -/
theorem sel_sub (K : ℕ → ℕ → ℝ) (k y x : ℕ) (hk : k < 9) :
    sel X K k y x - (if k < 8 then sel X K (k + 1) y x else 0) = vote X K k y x := by
  have key : ∀ (b : ℤ) (m : ℝ), 0 ≤ b → b < 9 →
      (if (k : ℤ) ≤ b then m else 0) - (if k < 8 then (if ((k + 1 : ℕ) : ℤ) ≤ b then m else 0) else 0) = if b = k then m else 0 := by
    intro b m hb hb'
    push_cast
    by_cases h1 : (k : ℤ) ≤ b <;> by_cases h2 : (k : ℤ) + 1 ≤ b <;> by_cases h3 : k < 8 <;> by_cases h4 : b = k <;>
      first
        | omega
        | (simp only [h1, h2, h3, if_true, if_false, sub_zero, sub_self, if_pos h4]; done)
        | (simp only [h1, h2, h3, if_true, if_false, sub_zero, sub_self, if_neg h4]; done)
  exact key _ _ (bin_range _ _).1 (bin_range _ _).2

/-! ### The stack and its products -/

/-- Nine pictures stacked. -/
def stackF (f0 f1 f2 f3 f4 f5 f6 f7 f8 : FVec Ideal S224x224 .f32) : FVec Ideal S2016x224 .f32 :=
  concatenate S2016x224 0 [⟨S224x224, f0⟩, ⟨S224x224, f1⟩, ⟨S224x224, f2⟩, ⟨S224x224, f3⟩, ⟨S224x224, f4⟩, ⟨S224x224, f5⟩, ⟨S224x224, f6⟩, ⟨S224x224, f7⟩, ⟨S224x224, f8⟩] concatenates_S224x224_S224x224_S224x224_S224x224_S224x224_S224x224_S224x224_S224x224_S224x224_S2016x224_d0

/-- The product with the pooling matrix. -/
def poolF (s : FVec Ideal S2016x224 .f32) (v99 : FVec Ideal S224x28 .f32) : FVec Ideal S2016x28 .f32 :=
  matmul dot_S2016x224_S224x28_S2016x28_1_0_0_1_n_n none s v99 (constant S2016x28 .f32 0x00000000#32)

/-- Each picture less the next one. -/
def diffF (s : FVec Ideal S2016x28 .f32) : FVec Ideal S2016x28 .f32 :=
  subf s (concatenate S2016x28 0 [⟨S1792x28, extractStridedSlice S1792x28 ![224, 0] s slices_S2016x28_o224_0_S1792x28⟩, ⟨S224x28, broadcast S224x28 (Scalar.ofBits .f32 0x00000000#32)⟩] concatenates_S1792x28_S224x28_S2016x28_d0)

/-- The sums of eight rows. -/
def rowsF (s : FVec Ideal S2016x28 .f32) : FVec Ideal S252x28 .f32 :=
  multiReduction .add [1] S252x28 (shapeCast S252x8x28 s shapeCasts_S2016x28_S252x8x28) 0x00000000#32 reduces_S252x8x28_S252x28 (.inl rfl) rfl

/-- The two enlarging products. -/
def upF (h : FVec Ideal S252x28 .f32) (v107 : FVec Ideal S2016x252 .f32) (v110 : FVec Ideal S28x224 .f32) : FVec Ideal S1x9x224x224 .f32 :=
  shapeCast S1x9x224x224 (shapeCast S9x224x224 (matmul dot_S2016x28_S28x224_S2016x224_1_0_0_1_n_n none
    (matmul dot_S2016x252_S252x28_S2016x28_1_0_0_1_n_n none (shapeCast S2016x252 v107 shapeCasts_S2016x252_S2016x252) h (constant S2016x28 .f32 0x00000000#32))
    v110 (constant S2016x224 .f32 0x00000000#32)) shapeCasts_S2016x224_S9x224x224) shapeCasts_S9x224x224_S1x9x224x224

/-- The stored value is these stages, one after the other. -/
theorem pay1_eq (v35 : FVec Ideal S224x224 .f32) (v55 v58 v65 v68 v75 v78 v85 v88 : IVec S224x224 1) (z : Ideal .f32)
   (v99 : Vec Ideal S224x28 .f32) (v107 : Vec Ideal S2016x252 .f32) (v110 : Vec Ideal S28x224 .f32) :
   k0_pay1 v35 v55 v58 v65 v68 v75 v78 v85 v88 z v99 v107 v110
    = upF (rowsF (diffF (poolF (stackF v35 (select v55 v35 (broadcast S224x224 z)) (select v65 v35 (broadcast S224x224 z))
        (select v75 v35 (broadcast S224x224 z)) (select v85 v35 (broadcast S224x224 z)) (select v88 v35 (broadcast S224x224 z))
        (select v78 v35 (broadcast S224x224 z)) (select v68 v35 (broadcast S224x224 z)) (select v58 v35 (broadcast S224x224 z))) v99))) v107 v110 := rfl

/-- The stack at a row of one of its pictures. -/
theorem stack_at {f0 f1 f2 f3 f4 f5 f6 f7 f8 : FVec Ideal S224x224 .f32} {S : ℕ → ℕ → ℕ → ℝ} (h0 : Is f0 (S 0)) (h1 : Is f1 (S 1))
    (h2 : Is f2 (S 2)) (h3 : Is f3 (S 3)) (h4 : Is f4 (S 4)) (h5 : Is f5 (S 5)) (h6 : Is f6 (S 6)) (h7 : Is f7 (S 7)) (h8 : Is f8 (S 8))
    (y : S2016x224.Idx) :
    stackF f0 f1 f2 f3 f4 f5 f6 f7 f8 y = ((S ((y 0 : ℕ) / 224) ((y 0 : ℕ) % 224) (y 1) : ℝ) : EReal) := by
  have e : ∀ k a b : ℕ, (y 0 : ℕ) / 224 = k → (y 0 : ℕ) % 224 = a → (y 1 : ℕ) = b →
      ((S k a b : ℝ) : EReal) = ((S ((y 0 : ℕ) / 224) ((y 0 : ℕ) % 224) (y 1) : ℝ) : EReal) := fun k a b hk ha hb => by rw [hk, ha, hb]
  have hy : (y 0 : ℕ) < 2016 := (y 0).isLt
  have at2 : ∀ (f : FVec Ideal S224x224 .f32) (g : ℕ → ℕ → ℝ), Is f g → ∀ i j : Fin 224, f (ix2 i j) = ((g i j : ℝ) : EReal) :=
    fun f g hf i j => hf _
  pointwise [stackF]
  split_ifs <;> first
    | exact (at2 _ _ h0 _ _).trans (e _ _ _ (by omega) (by simp only; omega) rfl)
    | exact (at2 _ _ h1 _ _).trans (e _ _ _ (by omega) (by simp only; omega) rfl)
    | exact (at2 _ _ h2 _ _).trans (e _ _ _ (by omega) (by simp only; omega) rfl)
    | exact (at2 _ _ h3 _ _).trans (e _ _ _ (by omega) (by simp only; omega) rfl)
    | exact (at2 _ _ h4 _ _).trans (e _ _ _ (by omega) (by simp only; omega) rfl)
    | exact (at2 _ _ h5 _ _).trans (e _ _ _ (by omega) (by simp only; omega) rfl)
    | exact (at2 _ _ h6 _ _).trans (e _ _ _ (by omega) (by simp only; omega) rfl)
    | exact (at2 _ _ h7 _ _).trans (e _ _ _ (by omega) (by simp only; omega) rfl)
    | exact (at2 _ _ h8 _ _).trans (e _ _ _ (by omega) (by simp only; omega) rfl)

/-- The pooling product sums each row over the cell's eight columns. -/
theorem pool_at {s : FVec Ideal S2016x224 .f32} {v99 : FVec Ideal S224x28 .f32} {S : ℕ → ℕ → ℝ}
    (hs : ∀ a, s a = ((S (a 0) (a 1) : ℝ) : EReal))
    (hv : ∀ a, v99 a = (((if (a 0 : ℕ) / 8 = a 1 then (1 : ℝ) else 0) : ℝ) : EReal)) (y : S2016x28.Idx) :
    poolF s v99 y = ((∑ x : Fin 8, S (y 0) (8 * (y 1) + x) : ℝ) : EReal) := by
  have h1 : (y 1 : ℕ) < 28 := (y 1).isLt
  pointwise [poolF]
  simp only [hs, hv, ← EReal.coe_mul, ← coe_sum]
  exact congrArg _ (sum_block (S (y 0)) (y 1) h1)

/-- Each picture less the next one. -/
theorem diff_at {s : FVec Ideal S2016x28 .f32} {Q : ℕ → ℕ → ℝ} (hs : ∀ a, s a = ((Q (a 0) (a 1) : ℝ) : EReal)) (y : S2016x28.Idx) :
    diffF s y = ((Q (y 0) (y 1) - (if (y 0 : ℕ) < 1792 then Q (224 + y 0) (y 1) else 0) : ℝ) : EReal) := by
  pointwise [diffF]
  rw [EReal.coe_sub, hs]
  by_cases q : (y 0 : ℕ) < 1792
  · rw [dif_pos q, if_pos q, hs]; rfl
  · rw [dif_neg q, if_neg q, EReal.coe_zero]

/-- The sums of eight rows. -/
theorem rows_at {s : FVec Ideal S2016x28 .f32} {Q : ℕ → ℕ → ℝ} (hs : ∀ a, s a = ((Q (a 0) (a 1) : ℝ) : EReal)) (y : S252x28.Idx) :
    rowsF s y = ((∑ r : Fin 8, Q (y 0 * 8 + r) (y 1) : ℝ) : EReal) := by
  pointwise [rowsF]
  simp only [hs, ← coe_sum]
  rfl

/-- The enlarging products. -/
theorem up_at {h : FVec Ideal S252x28 .f32} {v107 : FVec Ideal S2016x252 .f32} {v110 : FVec Ideal S28x224 .f32} {H : ℕ → ℕ → ℝ}
    (hh : ∀ a, h a = ((H (a 0) (a 1) : ℝ) : EReal))
    (h1 : ∀ a, v107 a = (((if (a 0 : ℕ) / 224 = (a 1 : ℕ) / 28 then (1 : ℝ) else 0) * hat ((a 0 : ℕ) % 224) ((a 1 : ℕ) % 28) : ℝ) : EReal))
    (h2 : ∀ a, v110 a = ((hat (a 1) (a 0) : ℝ) : EReal)) (y : S1x9x224x224.Idx) :
    upF h v107 v110 y = ((∑ c : Fin 28, (∑ i : Fin 28, hat (y 2) i * H (28 * y 1 + i) c) * hat (y 3) c : ℝ) : EReal) := by
  have l1 : (y 1 : ℕ) < 9 := (y 1).isLt
  have l2 : (y 2 : ℕ) < 224 := (y 2).isLt
  have e1 : ((y 1 : ℕ) * 224 + y 2) / 224 = y 1 := by omega
  have e2 : ((y 1 : ℕ) * 224 + y 2) % 224 = y 2 := by omega
  have at1 : ∀ (r : Fin 2016) (j : Fin 252), v107 (ix2 r j)
      = (((if (r : ℕ) / 224 = (j : ℕ) / 28 then (1 : ℝ) else 0) * hat ((r : ℕ) % 224) ((j : ℕ) % 28) : ℝ) : EReal) := fun r j => h1 _
  have at3 : ∀ (r : Fin 252) (j : Fin 28), h (ix2 r j) = ((H r j : ℝ) : EReal) := fun r j => hh _
  pointwise [upF]
  simp only [at1, h2, at3, ← EReal.coe_mul, ← coe_sum, e1, e2]
  refine congrArg (fun t : ℝ => (t : EReal)) (Finset.sum_congr rfl fun c _ => ?_)
  exact congrArg (fun t : ℝ => t * hat (y 3) c) (sum_bin (fun j => H j c) (hat (y 2)) (y 1) l1)

/-- The stored value is the specification's. -/
theorem block_at {x1 : Vec Ideal S224x224 .f32} {x2 : Vec Ideal S224x28 .f32} {x3 : Vec Ideal S2016x252 .f32} {x4 : Vec Ideal S28x224 .f32} {K : ℕ → ℕ → ℝ}
    (h : ∀ a, v0 a = ((X (a 2) (a 3) : ℝ) : EReal))
    (hk : Is x1 (fun y x => K (y % 16) (x % 16)))
    (h2 : ∀ a, x2 a = (((if (a 0 : ℕ) / 8 = a 1 then (1 : ℝ) else 0) : ℝ) : EReal))
    (h3 : ∀ a, x3 a = (((if (a 0 : ℕ) / 224 = (a 1 : ℕ) / 28 then (1 : ℝ) else 0) * hat ((a 0 : ℕ) % 224) ((a 1 : ℕ) % 28) : ℝ) : EReal))
    (h4 : ∀ a, x4 a = ((hat (a 1) (a 0) : ℝ) : EReal))
    (hc : ∀ y x, y < 224 → x < 224 → Clear (GX X y x) (GY X y x)) (y : S1x9x224x224.Idx) :
    k0_pay1 (F := Ideal) (k0_pay5 v0 x1)
      (k0_pay14 (k0_pay3 v0) (k0_pay4 v0) (k0_pay6 v0) k0_pay7 k0_pay8) (k0_pay15 (k0_pay3 v0) (k0_pay4 v0) (k0_pay6 v0) k0_pay7 k0_pay8)
      (k0_pay18 (k0_pay3 v0) (k0_pay4 v0) (k0_pay6 v0) k0_pay7 k0_pay8) (k0_pay19 (k0_pay3 v0) (k0_pay4 v0) (k0_pay6 v0) k0_pay7 k0_pay8)
      (k0_pay22 (k0_pay3 v0) (k0_pay4 v0) (k0_pay6 v0) k0_pay7 k0_pay8) (k0_pay23 (k0_pay3 v0) (k0_pay4 v0) (k0_pay6 v0) k0_pay7 k0_pay8)
      (k0_pay26 (k0_pay3 v0) (k0_pay4 v0) (k0_pay6 v0) k0_pay7 k0_pay8) (k0_pay27 (k0_pay3 v0) (k0_pay4 v0) (k0_pay6 v0) k0_pay7 k0_pay8)
      (Scalar.ofBits .f32 0x00000000#32) x2 x3 x4 y = ((out X K (y 1) (y 2) (y 3) : ℝ) : EReal) := by
  have hm := pay5_at h hk
  have hm0 : Is (k0_pay5 (F := Ideal) v0 x1) (sel X K 0) := fun a => (hm a).trans (by rw [sel0])
  have hst := stack_at hm0 (sel1 h hm hc) (sel2 h hm hc) (sel3 h hm hc) (sel4 h hm hc) (sel5 h hm hc) (sel6 h hm hc) (sel7 h hm hc) (sel8 h hm hc)
  have hp := pool_at (S := fun r x => sel X K (r / 224) (r % 224) x) hst h2
  have hd := diff_at (Q := fun r c => ∑ x : Fin 8, sel X K (r / 224) (r % 224) (8 * c + x)) hp
  have hr := rows_at (Q := fun r c => ∑ x : Fin 8, sel X K (r / 224) (r % 224) (8 * c + x)
    - (if r < 1792 then ∑ x : Fin 8, sel X K ((224 + r) / 224) ((224 + r) % 224) (8 * c + x) else 0)) hd
  have hu := up_at (H := fun q c => ∑ r : Fin 8, (∑ x : Fin 8, sel X K ((q * 8 + r) / 224) ((q * 8 + r) % 224) (8 * c + x)
    - (if q * 8 + r < 1792 then ∑ x : Fin 8, sel X K ((224 + (q * 8 + r)) / 224) ((224 + (q * 8 + r)) % 224) (8 * c + x) else 0))) hr h3 h4 y
  rw [pay1_eq, hu]
  have l1 : (y 1 : ℕ) < 9 := (y 1).isLt
  refine congrArg (fun t : ℝ => (t : EReal)) (Finset.sum_congr rfl fun c _ => ?_)
  refine congrArg (fun t : ℝ => t * hat (y 3) c) (Finset.sum_congr rfl fun i _ => congrArg (fun t : ℝ => hat (y 2) i * t) ?_)
  unfold cell
  refine Finset.sum_congr rfl fun r _ => ?_
  have e1 : ((28 * (y 1 : ℕ) + i) * 8 + r) / 224 = y 1 := by omega
  have e2 : ((28 * (y 1 : ℕ) + i) * 8 + r) % 224 = 8 * i + r := by omega
  have e3 : (224 + ((28 * (y 1 : ℕ) + i) * 8 + r)) / 224 = y 1 + 1 := by omega
  have e4 : (224 + ((28 * (y 1 : ℕ) + i) * 8 + r)) % 224 = 8 * i + r := by omega
  have e5 : ((28 * (y 1 : ℕ) + i) * 8 + r < 1792) = ((y 1 : ℕ) < 8) := by simp only [eq_iff_iff]; omega
  simp only [e1, e2, e3, e4, e5]
  simp only [← sel_sub K (y 1) _ _ l1]
  by_cases q : (y 1 : ℕ) < 8
  · simp only [if_pos q, Finset.sum_sub_distrib]
  · simp only [if_neg q, sub_zero]

end Hog.Ker
-- ==== Proof.Tables.lean ====
/- The kernel's three literal tables: the pooling matrix and the enlarging matrix with its transpose. -/
module

public import proofs.«01_k».proof.Proof.Spec
public import proofs.«01_k».proof.KernelIdeal

@[expose] public section

set_option maxRecDepth 16384

namespace Hog.Ker

open Cert.KernelIdeal Idealize.ShloMosaic

/-- The pooling matrix holds one where the line lies in the cell line. -/
theorem lit0_eq : ∀ i : Fin 6272, lit0 i = word (if (i : ℕ) / 28 / 8 = i % 28 then 16 else 0) := by decide +kernel

/-- The enlarging matrix holds the weights. -/
theorem lit1_eq : ∀ i : Fin 6272, lit1 i = word (N (i / 28) (i % 28)) := by decide +kernel

/-- Its transpose holds them too. -/
theorem lit2_eq : ∀ i : Fin 6272, lit2 i = word (N (i % 224) (i / 224)) := by decide +kernel

end Hog.Ker
-- ==== Proof.KerRun.lean ====
/- The kernel's result array after the run. -/
module

public import proofs.«01_k».proof.Proof.Ker
public import proofs.«01_k».proof.Proof.Tables

@[expose] public section

set_option maxRecDepth 16384

noncomputable section

namespace Hog.Ker

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) {X : ℕ → ℕ → ℕ → ℝ} {K : ℕ → ℕ → ℝ}

/-! ### Where the windows' blocks lie -/

/-- The picture's block is the grid point's own. -/
theorem idx0 : ∀ t : Fin cfg0.N, win0_0.index t = ![(t : ℕ), 0, 0, 0] := (by decide +kernel : ∀ t : Fin grid0.N, win0_0.index t = ![(t : ℕ), 0, 0, 0])
/-- The window over the weights is the whole array. -/
theorem idx1 : ∀ t : Fin cfg0.N, win0_1.index t = ![0, 0] := (by decide +kernel : ∀ t : Fin grid0.N, win0_1.index t = ![0, 0])
/-- So is the one over the pooling matrix. -/
theorem idx2 : ∀ t : Fin cfg0.N, win0_2.index t = ![0, 0] := (by decide +kernel : ∀ t : Fin grid0.N, win0_2.index t = ![0, 0])
/-- So is the one over the rows' enlarging matrix. -/
theorem idx3 : ∀ t : Fin cfg0.N, win0_3.index t = ![0, 0] := (by decide +kernel : ∀ t : Fin grid0.N, win0_3.index t = ![0, 0])
/-- So is the one over the columns' enlarging matrix. -/
theorem idx4 : ∀ t : Fin cfg0.N, win0_4.index t = ![0, 0] := (by decide +kernel : ∀ t : Fin grid0.N, win0_4.index t = ![0, 0])
/-- The result's block is the grid point's own. -/
theorem idx5 : ∀ t : Fin cfg0.N, win0_5.index t = ![(t : ℕ), 0, 0, 0] := (by decide +kernel : ∀ t : Fin grid0.N, win0_5.index t = ![(t : ℕ), 0, 0, 0])

/-! ### What the host lines before the kernel leave -/

/-- The window repeated over the picture. -/
theorem tile_eq (c : Dev nD) : V m c main_v2 = (shapeCast _ (broadcastInDim S14x16x14x16 ![0, 1, 2, 3] bcast_S1x16x1x16_S14x16x14x16_0_1_2_3 (shapeCast _ (m ((c : Thread nD τ).loc main_arg3) : FVec Ideal S16x16 .f32) shapeCasts_S16x16_S1x16x1x16)) shapeCasts_S14x16x14x16_S224x224 : FVec Ideal S224x224 .f32) := by
  unfold V
  simp only [List.flatten_cons, List.flatten_nil, List.append_nil, hostOps0, hostOps0_1, List.cons_append, List.nil_append]
  entry_read
  rfl

/-- The pooling matrix. -/
theorem cst_eq (c : Dev nD) : V m c main_cst = (fun i => FloatOps.ofBits .f32 (lit0 (S224x28.rowMajor i)) : FVec Ideal S224x28 .f32) := by
  unfold V
  simp only [List.flatten_cons, List.flatten_nil, List.append_nil, hostOps0, hostOps0_1, List.cons_append, List.nil_append]
  entry_read
  rfl

/-- The columns' enlarging matrix. -/
theorem cst1_eq (c : Dev nD) : V m c main_cst_1 = (fun i => FloatOps.ofBits .f32 (lit2 (S28x224.rowMajor i)) : FVec Ideal S28x224 .f32) := by
  unfold V
  simp only [List.flatten_cons, List.flatten_nil, List.append_nil, hostOps0, hostOps0_1, List.cons_append, List.nil_append]
  entry_read
  rfl

/-- One block of the rows' enlarging matrix. -/
def U : FVec Ideal S224x28 .f32 := fun i => FloatOps.ofBits .f32 (lit1 (S224x28.rowMajor i))

/-- The unit matrix of the nine bins. -/
def E : FVec Ideal S9x9 .f32 := uitofp .f32 (cmpi .eq (addi (iotaInDim S9x9 32 0) (broadcastInDim S9x9 ![] bcast_S_S9x9 (constantI S_ 32 0#32))) (iotaInDim S9x9 32 1))

/-- The rows' enlarging matrix, one block to a bin. -/
theorem kron_eq (c : Dev nD) : V m c main_v9 = (shapeCast _ (mulf (broadcastInDim S9x224x9x28 ![0, 1, 2, 3] bcast_S9x1x9x1_S9x224x9x28_0_1_2_3 (broadcastInDim S9x1x9x1 ![0, 2] bcast_S9x9_S9x1x9x1_0_2 E)) (broadcastInDim S9x224x9x28 ![0, 1, 2, 3] bcast_S1x224x1x28_S9x224x9x28_0_1_2_3 (broadcastInDim S1x224x1x28 ![1, 3] bcast_S224x28_S1x224x1x28_1_3 U))) shapeCasts_S9x224x9x28_S2016x252 : FVec Ideal S2016x252 .f32) := by
  unfold V
  simp only [List.flatten_cons, List.flatten_nil, List.append_nil, hostOps0, hostOps0_1, List.cons_append, List.nil_append]
  entry_read
  rfl

/-- A window repeated over the picture, of any window. -/
theorem tile_of (k : FVec Ideal S16x16 .f32) (hk : ∀ a, k a = ((K (a 0) (a 1) : ℝ) : EReal)) :
    Is (shapeCast _ (broadcastInDim S14x16x14x16 ![0, 1, 2, 3] bcast_S1x16x1x16_S14x16x14x16_0_1_2_3 (shapeCast _ k shapeCasts_S16x16_S1x16x1x16)) shapeCasts_S14x16x14x16_S224x224 : FVec Ideal S224x224 .f32) (fun y x => K (y % 16) (x % 16)) := by
  intro y
  pointwise
  exact hk _

/-- The repeated window's entries. -/
theorem tile_at (c : Dev nD) (hk : ∀ a, (m ((c : Thread nD τ).loc main_arg3) : FVec Ideal S16x16 .f32) a = ((K (a 0) (a 1) : ℝ) : EReal)) :
    Is (V m c main_v2) (fun y x => K (y % 16) (x % 16)) := by
  rw [tile_eq]
  exact tile_of _ hk

/-- An entry of the pooling matrix's table. -/
theorem lit0_at (n : Fin 6272) (p q : ℕ) (e : (n : ℕ) = p * 28 + q) (l : q < 28) : Ideal.ofBits .f32 (lit0 n) = (((if p / 8 = q then (1 : ℝ) else 0) : ℝ) : EReal) := by
  rw [lit0_eq, e, show (p * 28 + q) / 28 = p by omega, show (p * 28 + q) % 28 = q by omega]
  by_cases q : p / 8 = q
  · rw [if_pos q, if_pos q, ofBits_word 16 le_rfl]; norm_num
  · rw [if_neg q, if_neg q, ofBits_word 0 (by omega)]; norm_num

/-- An entry of the rows' enlarging table. -/
theorem lit1_at (n : Fin 6272) (p q : ℕ) (e : (n : ℕ) = p * 28 + q) (l : q < 28) : Ideal.ofBits .f32 (lit1 n) = ((hat p q : ℝ) : EReal) := by
  rw [lit1_eq, e, show (p * 28 + q) / 28 = p by omega, show (p * 28 + q) % 28 = q by omega, ofBits_word _ (N_le _ _)]
  rfl

/-- An entry of the columns' enlarging table. -/
theorem lit2_at (n : Fin 6272) (p q : ℕ) (e : (n : ℕ) = p * 224 + q) (l : q < 224) : Ideal.ofBits .f32 (lit2 n) = ((hat q p : ℝ) : EReal) := by
  rw [lit2_eq, e, show (p * 224 + q) / 224 = p by omega, show (p * 224 + q) % 224 = q by omega, ofBits_word _ (N_le _ _)]
  rfl

/-- The pooling matrix's entries. -/
theorem cst_at (c : Dev nD) (a : S224x28.Idx) :
    (V m c main_cst : FVec Ideal S224x28 .f32) a = (((if (a 0 : ℕ) / 8 = a 1 then (1 : ℝ) else 0) : ℝ) : EReal) := by
  rw [cst_eq]
  exact lit0_at _ _ _ (rowMajor_val2 a 28 rfl) (a 1).isLt

/-- The columns' enlarging matrix's entries. -/
theorem cst1_at (c : Dev nD) (a : S28x224.Idx) :
    (V m c main_cst_1 : FVec Ideal S28x224 .f32) a = ((hat (a 1) (a 0) : ℝ) : EReal) := by
  rw [cst1_eq]
  exact lit2_at _ _ _ (rowMajor_val2 a 224 rfl) (a 1).isLt

/-- The entries of one block of the rows' enlarging matrix. -/
theorem U_at (a : S224x28.Idx) : U a = ((hat (a 0) (a 1) : ℝ) : EReal) :=
  lit1_at _ _ _ (rowMajor_val2 a 28 rfl) (a 1).isLt

/-- The words of the unit matrix. -/
theorem eq_word : ∀ a b : Fin 9, IntOp.cmpi .eq (IntOp.addi (BitVec.ofNat 32 a) 0#32) (BitVec.ofNat 32 b) = if (a : ℕ) = b then 1#1 else 0#1 := by decide

/-- The unit matrix's entries. -/
theorem E_at (a : S9x9.Idx) : E a = (((if (a 0 : ℕ) = a 1 then (1 : ℝ) else 0) : ℝ) : EReal) := by
  show (((IntOp.cmpi .eq (IntOp.addi (BitVec.ofNat 32 (a 0)) 0#32) (BitVec.ofNat 32 (a 1))).toNat : ℝ) : EReal) = _
  rw [eq_word (a 0) (a 1)]
  by_cases q : (a 0 : ℕ) = a 1
  · rw [if_pos q, if_pos q]; norm_num
  · rw [if_neg q, if_neg q]; norm_num

/-- The entries of the rows' enlarging matrix. -/
theorem kron_at (c : Dev nD) (a : S2016x252.Idx) :
    (V m c main_v9 : FVec Ideal S2016x252 .f32) a = (((if (a 0 : ℕ) / 224 = (a 1 : ℕ) / 28 then (1 : ℝ) else 0) * hat ((a 0 : ℕ) % 224) ((a 1 : ℕ) % 28) : ℝ) : EReal) := by
  have hu := U_at
  have he := E_at
  rw [kron_eq]
  generalize U = u at hu
  generalize E = e at he
  pointwise
  rw [hu, he, ← EReal.coe_mul]
  rfl

/-- Reading the picture's whole block gives the block. -/
theorem ld_all (x : Vec Ideal S1x1x224x224 .f32) : View.ld x r0_0 = x :=
  View.ld_unit_lit (S := S1x1x224x224) _ x (by decide)

/-- What the body stores of its five blocks. -/
theorem body_at {x0 : Vec Ideal S1x1x224x224 .f32} {x1 : Vec Ideal S224x224 .f32} {x2 : Vec Ideal S224x28 .f32} {x3 : Vec Ideal S2016x252 .f32} {x4 : Vec Ideal S28x224 .f32} {X : ℕ → ℕ → ℝ}
    (h : ∀ a, x0 a = ((X (a 2) (a 3) : ℝ) : EReal))
    (hk : Is x1 (fun y x => K (y % 16) (x % 16)))
    (h2 : ∀ a, x2 a = (((if (a 0 : ℕ) / 8 = a 1 then (1 : ℝ) else 0) : ℝ) : EReal))
    (h3 : ∀ a, x3 a = (((if (a 0 : ℕ) / 224 = (a 1 : ℕ) / 28 then (1 : ℝ) else 0) * hat ((a 0 : ℕ) % 224) ((a 1 : ℕ) % 28) : ℝ) : EReal))
    (h4 : ∀ a, x4 a = ((hat (a 1) (a 0) : ℝ) : EReal))
    (hc : ∀ y x, y < 224 → x < 224 → Clear (GX X y x) (GY X y x)) (y : S1x9x224x224.Idx) :
    k0_pay1 (F := Ideal) (k0_pay5 x0 x1)
      (k0_pay14 (k0_pay28 x0 x1 x2 x3 x4) (k0_pay29 x0 x1 x2 x3 x4) (k0_pay30 x0 x1 x2 x3 x4) (k0_pay31 x0 x1 x2 x3 x4) (k0_pay32 x0 x1 x2 x3 x4)) (k0_pay15 (k0_pay28 x0 x1 x2 x3 x4) (k0_pay29 x0 x1 x2 x3 x4) (k0_pay30 x0 x1 x2 x3 x4) (k0_pay31 x0 x1 x2 x3 x4) (k0_pay32 x0 x1 x2 x3 x4))
      (k0_pay18 (k0_pay28 x0 x1 x2 x3 x4) (k0_pay29 x0 x1 x2 x3 x4) (k0_pay30 x0 x1 x2 x3 x4) (k0_pay31 x0 x1 x2 x3 x4) (k0_pay32 x0 x1 x2 x3 x4)) (k0_pay19 (k0_pay28 x0 x1 x2 x3 x4) (k0_pay29 x0 x1 x2 x3 x4) (k0_pay30 x0 x1 x2 x3 x4) (k0_pay31 x0 x1 x2 x3 x4) (k0_pay32 x0 x1 x2 x3 x4))
      (k0_pay22 (k0_pay28 x0 x1 x2 x3 x4) (k0_pay29 x0 x1 x2 x3 x4) (k0_pay30 x0 x1 x2 x3 x4) (k0_pay31 x0 x1 x2 x3 x4) (k0_pay32 x0 x1 x2 x3 x4)) (k0_pay23 (k0_pay28 x0 x1 x2 x3 x4) (k0_pay29 x0 x1 x2 x3 x4) (k0_pay30 x0 x1 x2 x3 x4) (k0_pay31 x0 x1 x2 x3 x4) (k0_pay32 x0 x1 x2 x3 x4))
      (k0_pay26 (k0_pay28 x0 x1 x2 x3 x4) (k0_pay29 x0 x1 x2 x3 x4) (k0_pay30 x0 x1 x2 x3 x4) (k0_pay31 x0 x1 x2 x3 x4) (k0_pay32 x0 x1 x2 x3 x4)) (k0_pay27 (k0_pay28 x0 x1 x2 x3 x4) (k0_pay29 x0 x1 x2 x3 x4) (k0_pay30 x0 x1 x2 x3 x4) (k0_pay31 x0 x1 x2 x3 x4) (k0_pay32 x0 x1 x2 x3 x4))
      (Scalar.ofBits .f32 0x00000000#32) x2 x3 x4 y = ((out X K (y 1) (y 2) (y 3) : ℝ) : EReal) := by
  unfold k0_pay32 k0_pay31 k0_pay30 k0_pay29 k0_pay28
  rw [ld_all]
  exact block_at h hk h2 h3 h4 hc y

/-- The result array after the run: the specification's values, picture by picture. -/
theorem final (c : Dev nD)
    (hx : ∀ a, (m ((c : Thread nD τ).loc main_arg0) : FVec Ideal S64x1x224x224 .f32) a = ((X (a 0) (a 2) (a 3) : ℝ) : EReal))
    (hk : ∀ a, (m ((c : Thread nD τ).loc main_arg3) : FVec Ideal S16x16 .f32) a = ((K (a 0) (a 1) : ℝ) : EReal))
    (hc : ∀ b y x, b < 64 → y < 224 → x < 224 → Clear (GX (X b) y x) (GY (X b) y x)) :
    (dats m 0 c).arrAt 5 cfg0.N = (fun i => ((out (X (i 0)) K (i 1) (i 2) (i 3) : ℝ) : EReal) : FVec Ideal S64x9x224x224 .f32) := by
  refine (dats m 0 c).arrAt_eq_of_covers 5 _ (by decide +kernel) fun t hf y => ?_
  have b1 : iblk m c 1 t = V m c main_v2 := by blk_ext! [iblk, idx1 t]
  have b2 : iblk m c 2 t = V m c main_cst := by blk_ext! [iblk, idx2 t]
  have b3 : iblk m c 3 t = V m c main_v9 := by blk_ext! [iblk, idx3 t]
  have b4 : iblk m c 4 t = V m c main_cst_1 := by blk_ext! [iblk, idx4 t]
  have b0 : ∀ a : S1x1x224x224.Idx, (iblk m c 0 t : FVec Ideal S1x1x224x224 .f32) a = ((X t (a 2) (a 3) : ℝ) : EReal) := fun a => by
    have e : (iblk m c 0 t : FVec Ideal S1x1x224x224 .f32) a = (m ((c : Thread nD τ).loc main_arg0) : FVec Ideal S64x1x224x224 .f32) (ix4 ⟨t, t.isLt⟩ 0 (a 2) (a 3)) := by
      blk_ext [iblk, idx0 t]
    rw [e, hx]
    rfl
  have hi : win0_5.index t 0 = t ∧ win0_5.index t 1 = 0 ∧ win0_5.index t 2 = 0 ∧ win0_5.index t 3 = 0 := by
    rw [idx5 t]; exact ⟨rfl, rfl, rfl, rfl⟩
  blk_simp
  rw [after0_5]
  frame_out
  rw [hi.1, hi.2.1, hi.2.2.1, hi.2.2.2, Nat.zero_mul]
  have ht : (t : ℕ) < 64 := t.isLt
  have cg : ∀ {k k' r r' x x' : ℕ}, k = k' → r = r' → x = x' → ((out (X t) K k r x : ℝ) : EReal) = ((out (X t) K k' r' x' : ℝ) : EReal) := by
    rintro _ _ _ _ _ _ rfl rfl rfl; rfl
  refine Eq.trans (body_at b0 (fun a => (congrFun b1 a).trans (tile_at m c hk a)) (fun a => (congrFun b2 a).trans (cst_at m c a)) (fun a => (congrFun b3 a).trans (kron_at m c a)) (fun a => (congrFun b4 a).trans (cst1_at m c a)) (fun y x => hc t y x ht) y) (cg (Nat.zero_add _).symm (Nat.zero_add _).symm (Nat.zero_add _).symm)

end Hog.Ker
-- ==== Proof.Grad.lean ====
/- The reference's gradients, bins and magnitudes, entry by entry. -/
module

public import proofs.«01_k».proof.Proof.Spec
public import proofs.«01_k».proof.Proof.Gen.ReferenceIdeal.Run
public import Idealize.ShloMosaic.Lib.Pointwise
public import Idealize.ShloMosaic.Lib.IdealHost
public import Idealize.ShloMosaic.Lib.Tactic.CleanTypes

@[expose] public section

set_option maxRecDepth 16384

noncomputable section

namespace Hog

/-- The horizontal Sobel weights. -/
def sob (i j : ℕ) : ℝ := (if i = 1 then 2 else 1) * (1 - j)

end Hog

namespace Hog.Ref

open Cert.ReferenceIdeal Cert.ReferenceIdeal.Gen Cert.ReferenceIdeal.Value Idealize.ShloMosaic Idealize.ShloMosaic.TcCoe Idealize.ShloMosaic.StableHlo

variable {V0 : Valuation τ sig (Elt Ideal)} {X : ℕ → ℕ → ℕ → ℝ} {K : ℕ → ℕ → ℝ}

/-- The first argument is the batch of pictures `X`. -/
def IsX (V0 : Valuation τ sig (Elt Ideal)) (X : ℕ → ℕ → ℕ → ℝ) : Prop :=
  ∀ a : S64x1x224x224.Idx, (V0 (Proc.devRef .tc main_arg0) : FVec Ideal S64x1x224x224 .f32) a = ((X (a 0) (a 2) (a 3) : ℝ) : EReal)

/-- The second and third arguments are the Sobel weights. -/
def IsW (V0 : Valuation τ sig (Elt Ideal)) : Prop :=
  (∀ a : S1x1x3x3.Idx, (V0 (Proc.devRef .tc main_arg1) : FVec Ideal S1x1x3x3 .f32) a = ((sob (a 2) (a 3) : ℝ) : EReal)) ∧
  ∀ a : S1x1x3x3.Idx, (V0 (Proc.devRef .tc main_arg2) : FVec Ideal S1x1x3x3 .f32) a = ((sob (a 3) (a 2) : ℝ) : EReal)

/-- The fourth argument is the window `K`. -/
def IsK (V0 : Valuation τ sig (Elt Ideal)) (K : ℕ → ℕ → ℝ) : Prop :=
  ∀ a : S16x16.Idx, (V0 (Proc.devRef .tc main_arg3) : FVec Ideal S16x16 .f32) a = ((K (a 0) (a 1) : ℝ) : EReal)

/-- The padded pictures. -/
theorem pad_at (h : IsX V0 X) (y : S64x226x226.Idx) :
    (res_main_v1 V0 : FVec Ideal S64x226x226 .f32) y = ((P (X (y 0)) (y 1) (y 2) : ℝ) : EReal) := by
  have hv : ∀ (b : Fin 64) (i j : Fin 224), (V0 (Proc.devRef .tc main_arg0) : FVec Ideal S64x1x224x224 .f32) (ix4 b 0 i j) = ((X b i j : ℝ) : EReal) := fun b i j => h _
  have e : ∀ a b : ℕ, a = rf (y 1) → b = rf (y 2) → ((X (y 0) a b : ℝ) : EReal) = ((P (X (y 0)) (y 1) (y 2) : ℝ) : EReal) :=
    fun a b ha hb => by rw [ha, hb]; rfl
  have h1 : (y 1 : ℕ) < 226 := (y 1).isLt
  have h2 : (y 2 : ℕ) < 226 := (y 2).isLt
  unfold res_main_v1 res_main_call0_v11 res_main_call0_v7 res_main_call0_v3 res_main_v0
  clean_types
  pointwise
  simp only [List.mem_singleton, Fin.reduceEq, ↓reduceIte, Fin.isValue]
  split_ifs <;> refine (hv (y 0) _ _).trans (e _ _ ?_ ?_) <;> dsimp only [rf] <;> split_ifs <;> first | rfl | omega

/-- The horizontal gradients. -/
theorem gx_at (hx : IsX V0 X) (hw : IsW V0) (y : S64x224x224.Idx) :
    (res_main_v99 V0 : FVec Ideal S64x224x224 .f32) y = ((GX (X (y 0)) (y 1) (y 2) : ℝ) : EReal) := by
  unfold res_main_v99
  unfold res_main_v6 res_main_v17 res_main_v28 res_main_v39 res_main_v50 res_main_v61 res_main_v72 res_main_v83 res_main_v94
  clean_types
  pointwise
  simp only [pad_at hx, hw.1, ← EReal.coe_mul, ← EReal.coe_add]
  refine congrArg (fun t : ℝ => (t : EReal)) ?_
  show sob 0 0 * P (X (y 0)) (y 1) (y 2) + sob 0 1 * P (X (y 0)) (y 1) (1 + y 2) + sob 0 2 * P (X (y 0)) (y 1) (2 + y 2) + sob 1 0 * P (X (y 0)) (1 + y 1) (y 2) + sob 1 1 * P (X (y 0)) (1 + y 1) (1 + y 2) + sob 1 2 * P (X (y 0)) (1 + y 1) (2 + y 2) + sob 2 0 * P (X (y 0)) (2 + y 1) (y 2) + sob 2 1 * P (X (y 0)) (2 + y 1) (1 + y 2) + sob 2 2 * P (X (y 0)) (2 + y 1) (2 + y 2) = _
  simp only [sob, GX]
  norm_num
  ring

/-- The vertical gradients. -/
theorem gy_at (hx : IsX V0 X) (hw : IsW V0) (y : S64x224x224.Idx) :
    (res_main_v104 V0 : FVec Ideal S64x224x224 .f32) y = ((GY (X (y 0)) (y 1) (y 2) : ℝ) : EReal) := by
  unfold res_main_v104
  unfold res_main_v6 res_main_v17 res_main_v28 res_main_v39 res_main_v50 res_main_v61 res_main_v72 res_main_v83 res_main_v94
  clean_types
  pointwise
  simp only [pad_at hx, hw.2, ← EReal.coe_mul, ← EReal.coe_add]
  refine congrArg (fun t : ℝ => (t : EReal)) ?_
  show sob 0 0 * P (X (y 0)) (y 1) (y 2) + sob 1 0 * P (X (y 0)) (y 1) (1 + y 2) + sob 2 0 * P (X (y 0)) (y 1) (2 + y 2) + sob 0 1 * P (X (y 0)) (1 + y 1) (y 2) + sob 1 1 * P (X (y 0)) (1 + y 1) (1 + y 2) + sob 2 1 * P (X (y 0)) (1 + y 1) (2 + y 2) + sob 0 2 * P (X (y 0)) (2 + y 1) (y 2) + sob 1 2 * P (X (y 0)) (2 + y 1) (1 + y 2) + sob 2 2 * P (X (y 0)) (2 + y 1) (2 + y 2) = _
  simp only [sob, GY]
  norm_num
  ring

/-- The angle over the reals. -/
theorem atan2_at (y x : ℝ) : Ideal.atan2 (y : EReal) (x : EReal) = ((ang y x : ℝ) : EReal) := rfl

/-- The angle of minus one. -/
theorem atan2_pi : Ideal.atan2 0 (Ideal.ofBits .f32 0xBF800000#32) = ((Real.pi : ℝ) : EReal) := by
  rw [ofBits_neg_one, ← EReal.coe_zero, atan2_at]
  norm_num [ang]

/-- The integer that a real between -9 and 9 becomes. -/
theorem int_at (n : ℤ) (h : -9 ≤ n ∧ n ≤ 9) : Ideal.fptosi 32 (((n : ℝ) : ℝ) : EReal) = BitVec.ofInt 32 n := by
  unfold Ideal.fptosi
  rw [Ideal.toIntClamped_coe]
  have : (if (0 : ℝ) ≤ (n : ℝ) then ⌊(n : ℝ)⌋ else ⌈(n : ℝ)⌉) = n := by simp
  rw [this]
  congr 1
  rw [min_eq_right (by norm_num; omega), max_eq_right (by norm_num; omega)]

/-- The bin before its sign is mended. -/
theorem rem_at (hx : IsX V0 X) (hw : IsW V0) (y : S64x224x224.Idx) :
    (res_main_call1_v4 V0 : IVec S64x224x224 32) y
      = IntOp.remsi .host (BitVec.ofInt 32 (rawBin (GX (X (y 0)) (y 1) (y 2)) (GY (X (y 0)) (y 1) (y 2)))) 9#32 := by
  have hgx := gx_at hx hw y
  have hgy := gy_at hx hw y
  unfold res_main_call1_v4 res_main_call1_v2 res_main_call1_v0
  clean_types
  pointwise
  rw [hgx, hgy, atan2_at, atan2_pi, ofBits_nine, Ideal.div_coe Real.pi_ne_zero, ← EReal.coe_mul, ← EReal.coe_mul, Ideal.liftRound_coe]
  exact congrArg (fun b => IntOp.remsi .host b 9#32) (int_at _ (rawBin_range _ _))

/-- The bins: the remainder of the division rounded down. -/
def binF (V0 : Valuation τ sig (Elt Ideal)) : IVec S64x224x224 32 :=
  select (andi (cmpi .ne (cmpi .slt (res_main_call1_v4 V0) (broadcastInDim S64x224x224 ![] bcast_S_S64x224x224 (constantI S_ 32 0#32))) (broadcastInDim S64x224x224 ![] bcast_S_S64x224x224 (cmpi .slt (res_main_call1_v2 V0) (constantI S_ 32 0#32)))) (cmpi .ne (res_main_call1_v4 V0) (broadcastInDim S64x224x224 ![] bcast_S_S64x224x224 (constantI S_ 32 0#32)))) (addi (res_main_call1_v4 V0) (broadcastInDim S64x224x224 ![] bcast_S_S64x224x224 (res_main_call1_v2 V0))) (res_main_call1_v4 V0)

/-- Mending the sign of a remainder by nine. -/
theorem mend (n : ℤ) (h : -9 ≤ n ∧ n ≤ 9) :
    (let q := IntOp.remsi .host (BitVec.ofInt 32 n) 9#32
     Scalar.select (IntOp.andi (IntOp.cmpi .ne (IntOp.cmpi .slt q 0#32) (IntOp.cmpi .slt 9#32 0#32)) (IntOp.cmpi .ne q 0#32)) (IntOp.addi q 9#32) q)
      = BitVec.ofInt 32 (n % 9) := by
  obtain ⟨a, b⟩ := h
  interval_cases n <;> decide

/-- The bin of a pixel. -/
theorem bin_at (hx : IsX V0 X) (hw : IsW V0) (y : S64x224x224.Idx) :
    binF V0 y = BitVec.ofInt 32 (pixBin (X (y 0)) (y 1) (y 2)) := by
  have hr := rem_at hx hw y
  rw [show pixBin (X (y 0)) (y 1) (y 2) = rawBin (GX (X (y 0)) (y 1) (y 2)) (GY (X (y 0)) (y 1) (y 2)) % 9 from rfl,
    ← mend _ (rawBin_range _ _), ← hr]
  rfl

/-- The window repeated over the picture, times the length of the gradient. -/
def magF (V0 : Valuation τ sig (Elt Ideal)) : FVec Ideal S64x224x224 .f32 :=
  mulf (Host.sqrt (addf (mulf (res_main_v99 V0) (res_main_v99 V0)) (mulf (res_main_v104 V0) (res_main_v104 V0)))) (broadcastInDim S64x224x224 ![0, 1, 2] bcast_S1x224x224_S64x224x224_0_1_2 (broadcastInDim S1x224x224 ![1, 2] bcast_S224x224_S1x224x224_1_2 (shapeCast _ (broadcastInDim S14x16x14x16 ![0, 1, 2, 3] bcast_S1x16x1x16_S14x16x14x16_0_1_2_3 (shapeCast _ (V0 (Proc.devRef .tc main_arg3)) shapeCasts_S16x16_S1x16x1x16)) shapeCasts_S14x16x14x16_S224x224)))

/-- The magnitude of a pixel. -/
theorem mag_at (hx : IsX V0 X) (hw : IsW V0) (hk : IsK V0 K) (y : S64x224x224.Idx) :
    magF V0 y = ((mag (X (y 0)) K (y 1) (y 2) : ℝ) : EReal) := by
  have hgx := gx_at hx hw y
  have hgy := gy_at hx hw y
  unfold magF
  clean_types
  pointwise
  rw [hgx, hgy, hk, ← EReal.coe_mul, ← EReal.coe_mul, ← EReal.coe_add, Ideal.sqrt_coe,
    if_neg (by nlinarith [sq_nonneg (GX (X (y 0)) (y 1) (y 2)), sq_nonneg (GY (X (y 0)) (y 1) (y 2))]), ← EReal.coe_mul]
  rfl

/-- The magnitude of a pixel in the plane of its bin, zero elsewhere. -/
def voteF (V0 : Valuation τ sig (Elt Ideal)) : FVec Ideal S64x9x224x224 .f32 :=
  select (cmpi .eq (broadcastInDim S64x9x224x224 ![0, 1, 2, 3] bcast_S64x1x224x224_S64x9x224x224_0_1_2_3 (broadcastInDim S64x1x224x224 ![0, 2, 3] bcast_S64x224x224_S64x1x224x224_0_2_3 (binF V0))) (broadcastInDim S64x9x224x224 ![0, 1, 2, 3] bcast_S1x9x1x1_S64x9x224x224_0_1_2_3 (broadcastInDim S1x9x1x1 ![1] bcast_S9_S1x9x1x1_1 (iotaInDim S9 32 0)))) (broadcastInDim S64x9x224x224 ![0, 1, 2, 3] bcast_S64x1x224x224_S64x9x224x224_0_1_2_3 (broadcastInDim S64x1x224x224 ![0, 2, 3] bcast_S64x224x224_S64x1x224x224_0_2_3 (magF V0))) (broadcastInDim S64x9x224x224 ![] bcast_S_S64x9x224x224 (id (constant S_ .f32 0x00000000#32)))

/-- A bin is a plane's number just when the words agree. -/
theorem word_eq (n : ℤ) (k : ℕ) (h : 0 ≤ n ∧ n < 9) (hk : k < 9) : IntOp.cmpi .eq (BitVec.ofInt 32 n) (BitVec.ofNat 32 k) = if n = k then 1#1 else 0#1 := by
  obtain ⟨a, b⟩ := h
  interval_cases n <;> interval_cases k <;> decide

/-- What a pixel adds to a plane. -/
theorem vote_at (hx : IsX V0 X) (hw : IsW V0) (hk : IsK V0 K) (y : S64x9x224x224.Idx) :
    voteF V0 y = ((vote (X (y 0)) K (y 1) (y 2) (y 3) : ℝ) : EReal) := by
  have hb := bin_at hx hw
  have hm := mag_at hx hw hk
  unfold voteF
  generalize binF V0 = bb at hb
  generalize magF V0 = mm at hm
  clean_types
  pointwise
  have l1 : (y 1 : ℕ) < 9 := (y 1).isLt
  rw [hb, hm]
  show Scalar.select (IntOp.cmpi .eq (BitVec.ofInt 32 (pixBin (X (y 0)) (y 2) (y 3))) (BitVec.ofNat 32 (y 1))) ((mag (X (y 0)) K (y 2) (y 3) : ℝ) : EReal) (Ideal.ofBits .f32 0x00000000#32) = _
  have hr : 0 ≤ pixBin (X (y 0)) (y 2) (y 3) ∧ pixBin (X (y 0)) (y 2) (y 3) < 9 := bin_range _ _
  rw [word_eq _ _ hr l1, Ideal.ofBits_zero_f32]
  simp only [vote]
  by_cases q : pixBin (X (y 0)) (y 2) (y 3) = (y 1 : ℕ)
  · rw [if_pos q, if_pos q]; rfl
  · rw [if_neg q, if_neg q]; rfl

/-- A sum over the fourth and sixth of six axes. -/
theorem sum_fiber (h : S64x9x28x8x28x8.ReducesTo [3, 5] S64x9x28x28) (j : S64x9x28x28.Idx) (v : S64x9x28x8x28x8.Idx → EReal) :
    Ideal.hostReduceAdd h v 0 j = ∑ r : Fin 8, ∑ s : Fin 8, v (ix6 (j 0) (j 1) (j 2) r (j 3) s) := by
  unfold Ideal.hostReduceAdd
  rw [zero_add]
  have key : ∀ [DecidablePred fun i : S64x9x28x8x28x8.Idx => h.drop i = j],
      ∑ i ∈ Finset.univ.filter (fun i => h.drop i = j), v i = ∑ r : Fin 8, ∑ s : Fin 8, v (ix6 (j 0) (j 1) (j 2) r (j 3) s) := by
    intro inst
    classical
    refine (Finset.sum_filter_eq_sum_of_fiber (fun i => h.drop i = j) (fun k : Fin 8 × Fin 8 => ix6 (j 0) (j 1) (j 2) k.1 (j 3) k.2)
      (fun _ _ e => Prod.ext (congrFun e 3) (congrFun e 5)) (fun i => ?_) v).trans ?_
    · constructor
      · intro e
        refine ⟨(i 3, i 5), ?_⟩
        subst e
        funext a
        fin_cases a <;> rfl
      · rintro ⟨k, rfl⟩
        funext b
        fin_cases b <;> rfl
    · simp only [Fintype.sum_prod_type]
  exact @key _

/-- Sums over the cells' rows and columns. -/
theorem pool_at (hx : IsX V0 X) (hw : IsW V0) (hk : IsK V0 K) (y : S64x9x28x28.Idx) :
    Host.reduceAdd (F := Ideal) (shapeCast _ (voteF V0) shapeCasts_S64x9x224x224_S64x9x28x8x28x8) (constant S_ .f32 0x00000000#32) reducesTo_S64x9x28x8x28x8_S64x9x28x28_d3_5 h_S_ y
      = ((cell (X (y 0)) K (y 1) (y 2) (y 3) : ℝ) : EReal) := by
  have hv := vote_at hx hw hk
  generalize voteF V0 = v at hv
  show Ideal.hostReduceAdd reducesTo_S64x9x28x8x28x8_S64x9x28x28_d3_5 _ (Ideal.ofBits .f32 0x00000000#32) y = _
  rw [Ideal.ofBits_zero_f32, sum_fiber]
  simp only [cell, coe_sum]
  refine Finset.sum_congr rfl fun r _ => Finset.sum_congr rfl fun s _ => ?_
  clean_types
  pointwise
  rw [hv]
  show ((vote (X (y 0)) K (y 1) ((y 2 : ℕ) * 8 + r) ((y 3 : ℕ) * 8 + s) : ℝ) : EReal) = _
  rw [mul_comm (y 2 : ℕ) 8, mul_comm (y 3 : ℕ) 8]

end Hog.Ref
-- ==== Proof.Weights.lean ====
/- The reference's weights of the enlargement. -/
module

public import proofs.«01_k».proof.Proof.Spec
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Hog.Ref

open Cert.ReferenceIdeal Cert.ReferenceIdeal.Gen Cert.ReferenceIdeal.Value Idealize.ShloMosaic Idealize.ShloMosaic.TcCoe Idealize.ShloMosaic.StableHlo

variable {V0 : Valuation τ sig (Elt Ideal)}

/-- Sixteen times the tent of cell line `i` at line `y`, not yet divided by the column's total. -/
def T (y i : ℕ) : ℕ := 16 - ((2 * y - (16 * i + 7)) + ((16 * i + 7) - 2 * y))

/-- The column's total. -/
def S (y : ℕ) : ℕ := ∑ i : Fin 28, T y i

theorem S_pos (y : ℕ) (hy : y < 224) : 9 ≤ S y ∧ S y ≤ 16 := by
  have : ∀ y : Fin 224, 9 ≤ S y ∧ S y ≤ 16 := by decide +kernel
  exact this ⟨y, hy⟩

theorem T_N (y i : ℕ) (hy : y < 224) (hi : i < 28) : T y i * 16 = N y i * S y := by
  have : ∀ (y : Fin 224) (i : Fin 28), T y i * 16 = N y i * S y := by decide +kernel
  exact this ⟨y, hy⟩ ⟨i, hi⟩

/-- The word of a small number is that number. -/
theorem nat_word (n : ℕ) (h : n < 1024) : FloatOps.sitofp (F := Ideal) .f32 (BitVec.ofNat 32 n) = (((n : ℕ) : ℝ) : EReal) := by
  have e : (BitVec.ofNat 32 n).toInt = n := by
    rw [BitVec.toInt_ofNat']; exact Int.bmod_eq_of_le (by omega) (by omega)
  show (((BitVec.ofNat 32 n).toInt : ℝ) : EReal) = _
  rw [e]; norm_cast

/-- The absolute value of a real. -/
theorem absf_at (r : ℝ) : FloatOps.absf (F := Ideal) (φ := .f32) (r : EReal) = ((|r| : ℝ) : EReal) := by
  show max (r : EReal) (-r) = _
  rw [← EReal.coe_neg, abs_eq_max_neg]
  exact (EReal.coe_strictMono.monotone.map_max).symm

/-- The tent over the reals. -/
theorem tent_real (y i : ℕ) : max 0 (1 - |(|((y : ℝ) + 1 / 2) * (1 / 8) - 1 / 2 - i|)|) = (T y i : ℝ) / 16 := by
  have key : ∀ d : ℕ, max (0 : ℝ) (1 - (d : ℝ) / 16) = ((16 - d : ℕ) : ℝ) / 16 := fun d => by
    rcases le_total d 16 with h | h
    · rw [Nat.cast_sub h, max_eq_right]
      · push_cast; ring
      · have : (d : ℝ) ≤ 16 := by exact_mod_cast h
        linarith
    · rw [Nat.sub_eq_zero_of_le h, max_eq_left]
      · simp
      · have : (16 : ℝ) ≤ d := by exact_mod_cast h
        linarith
  rw [abs_abs]
  rcases le_total (2 * y) (16 * i + 7) with h | h
  · obtain ⟨d, e⟩ := Nat.exists_eq_add_of_le h
    have e' : (16 : ℝ) * i + 7 = 2 * y + d := by exact_mod_cast e
    rw [show T y i = 16 - d by unfold T; omega, ← key, show ((y : ℝ) + 1 / 2) * (1 / 8) - 1 / 2 - i = -(d / 16) by linarith, abs_neg,
      abs_of_nonneg (by positivity)]
  · obtain ⟨d, e⟩ := Nat.exists_eq_add_of_le h
    have e' : (2 : ℝ) * y = 16 * i + 7 + d := by exact_mod_cast e
    rw [show T y i = 16 - d by unfold T; omega, ← key, show ((y : ℝ) + 1 / 2) * (1 / 8) - 1 / 2 - i = d / 16 by linarith,
      abs_of_nonneg (by positivity)]

/-- The place of line `y` between the cell lines. -/
theorem place_at (y : S224.Idx) : (res_main_call3_v8 V0 : FVec Ideal S224 .f32) y = ((((y 0 : ℕ) + 1 / 2) * (1 / 8) - 1 / 2 : ℝ) : EReal) := by
  unfold res_main_call3_v8
  clean_types
  pointwise
  rw [nat_word _ (lt_trans (y 0).isLt (by decide)), ofBits_half, ofBits_eighth]
  simp only [← EReal.coe_add, ← EReal.coe_mul, ← EReal.coe_sub]

theorem tent_at (y : S28x224.Idx) : (res_main_call3_v22 V0 : FVec Ideal S28x224 .f32) y = ((T (y 1) (y 0) / 16 : ℝ) : EReal) := by
  have hp := place_at (V0 := V0)
  unfold res_main_call3_v22
  generalize res_main_call3_v8 V0 = p at hp
  clean_types
  pointwise
  rw [nat_word _ (lt_trans (y 0).isLt (by decide)), hp, ← EReal.coe_sub, absf_at, ← EReal.coe_one, Ideal.div_coe one_ne_zero, div_one, ← EReal.coe_mul, mul_one, absf_at,
    ← EReal.coe_sub, ← EReal.coe_zero, ← EReal.coe_strictMono.monotone.map_max]
  exact congrArg (fun t : ℝ => (t : EReal)) (tent_real (y 1) (y 0))

theorem total_at (y : S1x224.Idx) : (res_main_call3_v24 V0 : FVec Ideal S1x224 .f32) y = ((S (y 1) / 16 : ℝ) : EReal) := by
  have hp := tent_at (V0 := V0)
  unfold res_main_call3_v24
  generalize res_main_call3_v22 V0 = p at hp
  clean_types
  pointwise
  simp only [hp, ← coe_sum]
  refine congrArg (fun t : ℝ => (t : EReal)) ?_
  show ∑ i : Fin 28, (T (y 1) i : ℝ) / 16 = _
  rw [← Finset.sum_div]
  simp only [S, Nat.cast_sum]

/-- The words of minus a half, of twenty-seven and a half, and of the least total. -/
theorem ofBits_neg_half : Ideal.ofBits .f32 0xBF000000#32 = ((-1 / 2 : ℝ) : EReal) := by
  simp [Ideal.ofBits, Ideal.ieee, -EReal.coe_mul]; norm_num
theorem ofBits_last : Ideal.ofBits .f32 0x41DC0000#32 = ((55 / 2 : ℝ) : EReal) := by
  simp [Ideal.ofBits, Ideal.ieee, -EReal.coe_mul]; norm_num
theorem ofBits_tiny : Ideal.ofBits .f32 0x38FA0000#32 = ((1 / 8388608 * 1000 : ℝ) : EReal) := by
  simp [Ideal.ofBits, Ideal.ieee, -EReal.coe_mul]; norm_num

/-- The weights. -/
def weightF (V0 : Valuation τ sig (Elt Ideal)) : FVec Ideal S28x224 .f32 :=
  select (broadcastInDim S28x224 ![0, 1] bcast_S1x224_S28x224_0_1 (broadcastInDim S1x224 ![1] bcast_S224_S1x224_1 (andi (cmpf .oge (res_main_call3_v8 V0) (broadcastInDim S224 ![] bcast_S_S224 (constant S_ .f32 0xBF000000#32))) (cmpf .ole (res_main_call3_v8 V0) (broadcastInDim S224 ![] bcast_S_S224 (constant S_ .f32 0x41DC0000#32)))))) (select (broadcastInDim S28x224 ![0, 1] bcast_S1x224_S28x224_0_1 (cmpf .ogt (Host.absf (res_main_call3_v24 V0)) (broadcastInDim S1x224 ![] bcast_S_S1x224 (constant S_ .f32 0x38FA0000#32)))) (Host.divf (res_main_call3_v22 V0) (broadcastInDim S28x224 ![0, 1] bcast_S1x224_S28x224_0_1 (select (cmpf .une (res_main_call3_v24 V0) (broadcastInDim S1x224 ![] bcast_S_S1x224 (constant S_ .f32 0x00000000#32))) (res_main_call3_v24 V0) (broadcastInDim S1x224 ![] bcast_S_S1x224 (sitofp .f32 (constantI S_ 32 1#32)))))) (broadcastInDim S28x224 ![] bcast_S_S28x224 (sitofp .f32 (constantI S_ 32 0#32)))) (broadcastInDim S28x224 ![] bcast_S_S28x224 (sitofp .f32 (constantI S_ 32 0#32)))

/-- The weights are the specification's. -/
theorem weight_at (y : S28x224.Idx) : weightF V0 y = ((hat (y 1) (y 0) : ℝ) : EReal) := by
  have hp := place_at (V0 := V0)
  have ht := tent_at (V0 := V0)
  have hs := total_at (V0 := V0)
  unfold weightF
  generalize res_main_call3_v8 V0 = p at hp
  generalize res_main_call3_v22 V0 = t at ht
  generalize res_main_call3_v24 V0 = s at hs
  clean_types
  pointwise
  have l1 : (y 1 : ℕ) < 224 := (y 1).isLt
  have l0 : (y 0 : ℕ) < 28 := (y 0).isLt
  rw [hp, hs, ht, nat_word 0 (by decide), ofBits_neg_half, ofBits_last, ofBits_tiny]
  show Scalar.select (IntOp.andi (BitVec.ofBool (decide (((-1 / 2 : ℝ) : EReal) ≤ ((((y 1 : ℕ) + 1 / 2) * (1 / 8) - 1 / 2 : ℝ) : EReal))))
        (BitVec.ofBool (decide (((((y 1 : ℕ) + 1 / 2) * (1 / 8) - 1 / 2 : ℝ) : EReal) ≤ ((55 / 2 : ℝ) : EReal)))))
      (if ((1 / 8388608 * 1000 : ℝ) : EReal) < FloatOps.absf (F := Ideal) (φ := .f32) ((S (y 1) / 16 : ℝ) : EReal) then
        Ideal.div ((T (y 1) (y 0) / 16 : ℝ) : EReal) (if ((S (y 1) / 16 : ℝ) : EReal) ≠ 0 then ((S (y 1) / 16 : ℝ) : EReal) else FloatOps.sitofp (F := Ideal) .f32 1#32)
      else (((0 : ℕ) : ℝ) : EReal)) (((0 : ℕ) : ℝ) : EReal) = _
  generalize (y 1 : ℕ) = r at l1
  generalize (y 0 : ℕ) = i at l0
  have hS := S_pos r l1
  have hT := T_N r i l1 l0
  have hS' : (9 : ℝ) ≤ S r := by exact_mod_cast hS.1
  have hT' : (T r i : ℝ) * 16 = N r i * S r := by exact_mod_cast hT
  unfold hat
  clear hS hT
  generalize S r = u at *
  generalize T r i = t at *
  generalize N r i = n at *
  have hr : (r : ℝ) ≤ 223 := by exact_mod_cast Nat.le_of_lt_succ l1
  have hr0 : (0 : ℝ) ≤ r := Nat.cast_nonneg r
  have c1 : ((-1 / 2 : ℝ) : EReal) ≤ (((r : ℝ) + 1 / 2) * (1 / 8) - 1 / 2 : ℝ) := EReal.coe_le_coe_iff.mpr (by linarith)
  have c2 : ((((r : ℝ) + 1 / 2) * (1 / 8) - 1 / 2 : ℝ) : EReal) ≤ ((55 / 2 : ℝ) : EReal) := EReal.coe_le_coe_iff.mpr (by linarith)
  have c3 : ((u / 16 : ℝ) : EReal) ≠ 0 := fun h => by
    have := EReal.coe_eq_zero.mp h
    linarith
  have c4 : ((1 / 8388608 * 1000 : ℝ) : EReal) < ((|(u / 16 : ℝ)| : ℝ) : EReal) := EReal.coe_lt_coe_iff.mpr (by
    rw [abs_of_nonneg (by positivity)]; linarith)
  rw [absf_at, if_pos c3, if_pos c4, decide_eq_true c1, decide_eq_true c2, Ideal.div_coe (by linarith), ← EReal.coe_mul]
  refine (show Scalar.select 1#1 _ _ = _ from rfl : _ = _).trans ?_
  refine congrArg (fun t : ℝ => (t : EReal)) ?_
  field_simp
  linarith

end Hog.Ref
-- ==== Proof.Ref.lean ====
/- The reference's result, entry by entry. -/
module

public import proofs.«01_k».proof.Proof.Grad
public import proofs.«01_k».proof.Proof.Weights

@[expose] public section

set_option maxRecDepth 16384

noncomputable section

namespace Hog.Ref

open Cert.ReferenceIdeal Idealize.SL.Sem Cert.ReferenceIdeal.Gen Cert.ReferenceIdeal.Value Idealize.ShloMosaic Idealize.ShloMosaic.TcCoe Idealize.ShloMosaic.StableHlo

variable {V0 : Valuation τ sig (Elt Ideal)} {X : ℕ → ℕ → ℕ → ℝ} {K : ℕ → ℕ → ℝ}

/-- The histograms of the cells. -/
def poolF (V0 : Valuation τ sig (Elt Ideal)) : FVec Ideal S64x9x28x28 .f32 :=
  Host.reduceAdd (F := Ideal) (shapeCast _ (voteF V0) shapeCasts_S64x9x224x224_S64x9x28x8x28x8) (constant S_ .f32 0x00000000#32) reducesTo_S64x9x28x8x28x8_S64x9x28x28_d3_5 h_S_

/-- The histograms enlarged, first in the rows and then in the columns. -/
def resF (V0 : Valuation τ sig (Elt Ideal)) : FVec Ideal S64x9x224x224 .f32 :=
  Host.dotGeneral dot_S64x9x224x28_S28x224_S64x9x224x224_3_0_012_1_n_n (some .fp32) (transpose S64x9x224x28 [1, 2, 0, 3] (Host.dotGeneral dot_S28x224_S64x9x28x28_S224x64x9x28_0_2_1_013_n_n (some .fp32) (weightF V0) (poolF V0)) transposes_S224x64x9x28_S64x9x224x28_1_2_0_3) (weightF V0)

/-- The reference's result is the specification's. -/
theorem res_at (hx : IsX V0 X) (hw : IsW V0) (hk : IsK V0 K) (y : S64x9x224x224.Idx) :
    resF V0 y = ((out (X (y 0)) K (y 1) (y 2) (y 3) : ℝ) : EReal) := by
  have hp : ∀ a, poolF V0 a = _ := pool_at hx hw hk
  have hh := weight_at (V0 := V0)
  unfold resF
  generalize poolF V0 = p at hp
  generalize weightF V0 = w at hh
  pointwise
  simp only [hp, hh, ← EReal.coe_mul, ← coe_sum]
  rfl

/-- The reference's run ends with that result. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v135) = resF (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

end Hog.Ref
-- ==== Proof.Pre.lean ====
/- What the precondition says of the arguments. -/
module

public import proofs.«01_k».proof.Proof.Grad
public import proofs.«01_k».proof.Proof.Weights
public import proofs.«01_k».proof.Proof.Gen.Pre_clear_of_bin_edges

@[expose] public section

set_option maxRecDepth 16384

noncomputable section

namespace Hog.Pre

open Cert.ReferenceIdeal Cert.ReferenceIdeal.Gen Cert.ReferenceIdeal.Value Idealize.ShloMosaic Idealize.ShloMosaic.TcCoe Idealize.ShloMosaic.StableHlo Hog.Ref

variable {V0 : Valuation τ sig (Elt Ideal)} {X : ℕ → ℕ → ℕ → ℝ} {K : ℕ → ℕ → ℝ}

/-- One word over every pixel. -/
def every (w : BitVec 32) : FVec Ideal S64x224x224 .f32 := broadcastInDim S64x224x224 ![] bcast_S_S64x224x224 (constant S_ .f32 w)

/-- The margin: a small part of the gradient's size. -/
def roomF (gx gy : FVec Ideal S64x224x224 .f32) : FVec Ideal S64x224x224 .f32 :=
  mulf (addf (Host.absf gx) (Host.absf gy)) (every 0x33800000#32)

/-- The test of the edge with cosine `c` and sine `s`: the difference at least the margin. -/
def offF (gx gy : FVec Ideal S64x224x224 .f32) (c s : BitVec 32) : IVec S64x224x224 1 :=
  cmpf .oge (Host.absf (subf (mulf gx (every c)) (mulf gy (every s)))) (roomF gx gy)

/-- The test of the edge's mirror image: the sum at least the margin. -/
def onF (gx gy : FVec Ideal S64x224x224 .f32) (c s : BitVec 32) : IVec S64x224x224 1 :=
  cmpf .oge (Host.absf (addf (mulf gx (every c)) (mulf gy (every s)))) (roomF gx gy)

/-- The eight tests together. -/
def clearF (gx gy : FVec Ideal S64x224x224 .f32) : IVec S64x224x224 1 :=
  andi (andi (andi (andi (andi (andi (andi (andi (broadcastInDim S64x224x224 ![] bcast_S_S64x224x224 (constantI S_ 1 1#1)) (offF gx gy 0x3F708FB2#32 0x3EAF1D44#32)) (onF gx gy 0x3F708FB2#32 0x3EAF1D44#32))
    (offF gx gy 0x3F441B7D#32 0x3F248DBB#32)) (onF gx gy 0x3F441B7D#32 0x3F248DBB#32))
    (offF gx gy 0x3F000000#32 0x3F5DB3D7#32)) (onF gx gy 0x3F000000#32 0x3F5DB3D7#32))
    (offF gx gy 0x3E31D0D4#32 0x3F7C1C5C#32)) (onF gx gy 0x3E31D0D4#32 0x3F7C1C5C#32)

/-- The padding is the reference's. -/
theorem pad_eq (V0 : Valuation τ sig (Elt Ideal)) (c : IVec S_ 32) :
    Cert.Pre_clear_of_bin_edges.fn_pad (F := Ideal) (shapeCast _ (V0 (Proc.devRef .tc main_arg0) : FVec Ideal S64x1x224x224 .f32) shapeCasts_S64x1x224x224_S64x224x224) c = res_main_v1 V0 := rfl

/-- The last three runs of operations, of any gradients. -/
theorem part5_clear (a0 : FVec Ideal S64x1x224x224 .f32) (a1 a2 : FVec Ideal S1x1x3x3 .f32) (a3 : FVec Ideal S16x16 .f32) (w : FVec Ideal Cert.Pre_clear_of_bin_edges.S3x3 .f32) (gx gy : FVec Ideal S64x224x224 .f32) :
    (Cert.Pre_clear_of_bin_edges.fn_part5 (F := Ideal) a0 a1 a2 a3 w gx gy (roomF gx gy) (mulf gx (every 0x3F708FB2#32)) (every 0x3EAF1D44#32)).2.2.2.2 = clearF gx gy := rfl

/-- The runs of operations before them end in the gradients. -/
theorem fn_grad (V0 : Valuation τ sig (Elt Ideal)) :
    Cert.Pre_clear_of_bin_edges.fn (F := Ideal) (V0 (Proc.devRef .tc main_arg0)) (V0 (Proc.devRef .tc main_arg1)) (V0 (Proc.devRef .tc main_arg2)) (V0 (Proc.devRef .tc main_arg3))
      = Cert.Pre_clear_of_bin_edges.fn_part5 (F := Ideal) (V0 (Proc.devRef .tc main_arg0)) (V0 (Proc.devRef .tc main_arg1)) (V0 (Proc.devRef .tc main_arg2)) (V0 (Proc.devRef .tc main_arg3))
        (fun i => FloatOps.ofBits .f32 (Cert.Pre_clear_of_bin_edges.lit0 (Cert.Pre_clear_of_bin_edges.S3x3.rowMajor i))) (res_main_v99 V0) (res_main_v104 V0)
        (roomF (res_main_v99 V0) (res_main_v104 V0)) (mulf (res_main_v99 V0) (every 0x3F708FB2#32)) (every 0x3EAF1D44#32) := by
  unfold Cert.Pre_clear_of_bin_edges.fn Cert.Pre_clear_of_bin_edges.fn_part1 Cert.Pre_clear_of_bin_edges.fn_part2 Cert.Pre_clear_of_bin_edges.fn_part3 Cert.Pre_clear_of_bin_edges.fn_part4
  rfl

/-- A conjunction of two bits is set only when both are. -/
theorem and_bits : ∀ a b : BitVec 1, IntOp.andi a b = 1#1 → a = 1#1 ∧ b = 1#1 := by decide

/-- A set comparison bit says that its numbers compare. -/
theorem ge_bit {a b : ℝ} (h : Ideal.cmp .oge (a : EReal) (b : EReal) = 1#1) : b ≤ a := by
  by_contra q
  have : Ideal.cmp .oge (a : EReal) (b : EReal) = 0#1 := by
    show BitVec.ofBool (decide ((b : EReal) ≤ (a : EReal))) = _
    rw [decide_eq_false (fun r => q (EReal.coe_le_coe_iff.mp r))]
    rfl
  rw [this] at h
  exact absurd h (by decide)

/-- One edge's difference test, at a pixel. -/
theorem off_at {gx gy : FVec Ideal S64x224x224 .f32} {a : S64x224x224.Idx} {p q c s : ℝ} {wc ws : BitVec 32}
    (hx : gx a = (p : EReal)) (hy : gy a = (q : EReal)) (hc : Ideal.ofBits .f32 wc = (c : EReal)) (hs : Ideal.ofBits .f32 ws = (s : EReal))
    (h : offF gx gy wc ws a = 1#1) : (|p| + |q|) * (1 / 2 ^ 24) ≤ |p * c - q * s| := by
  refine ge_bit ?_
  rw [← h]
  show _ = Ideal.cmp .oge (FloatOps.absf (F := Ideal) (φ := .f32) (gx a * Ideal.ofBits .f32 wc - gy a * Ideal.ofBits .f32 ws)) ((FloatOps.absf (F := Ideal) (φ := .f32) (gx a) + FloatOps.absf (F := Ideal) (φ := .f32) (gy a)) * Ideal.ofBits .f32 0x33800000#32)
  rw [hx, hy, hc, hs, ofBits_room, ← EReal.coe_mul, ← EReal.coe_mul, ← EReal.coe_sub, absf_at, absf_at, absf_at, ← EReal.coe_add, ← EReal.coe_mul]

/-- One edge's sum test, at a pixel. -/
theorem on_at {gx gy : FVec Ideal S64x224x224 .f32} {a : S64x224x224.Idx} {p q c s : ℝ} {wc ws : BitVec 32}
    (hx : gx a = (p : EReal)) (hy : gy a = (q : EReal)) (hc : Ideal.ofBits .f32 wc = (c : EReal)) (hs : Ideal.ofBits .f32 ws = (s : EReal))
    (h : onF gx gy wc ws a = 1#1) : (|p| + |q|) * (1 / 2 ^ 24) ≤ |p * c + q * s| := by
  refine ge_bit ?_
  rw [← h]
  show _ = Ideal.cmp .oge (FloatOps.absf (F := Ideal) (φ := .f32) (gx a * Ideal.ofBits .f32 wc + gy a * Ideal.ofBits .f32 ws)) ((FloatOps.absf (F := Ideal) (φ := .f32) (gx a) + FloatOps.absf (F := Ideal) (φ := .f32) (gy a)) * Ideal.ofBits .f32 0x33800000#32)
  rw [hx, hy, hc, hs, ofBits_room, ← EReal.coe_mul, ← EReal.coe_mul, ← EReal.coe_add, absf_at, absf_at, absf_at, ← EReal.coe_add, ← EReal.coe_mul]

/-- The eight tests passed, a pixel's gradient is clear of the edges. -/
theorem clear_at {gx gy : FVec Ideal S64x224x224 .f32} {a : S64x224x224.Idx} {p q : ℝ}
    (hx : gx a = (p : EReal)) (hy : gy a = (q : EReal)) (h : clearF gx gy a = 1#1) : Clear p q := by
  obtain ⟨h, h8⟩ := and_bits _ _ h
  obtain ⟨h, h7⟩ := and_bits _ _ h
  obtain ⟨h, h6⟩ := and_bits _ _ h
  obtain ⟨h, h5⟩ := and_bits _ _ h
  obtain ⟨h, h4⟩ := and_bits _ _ h
  obtain ⟨h, h3⟩ := and_bits _ _ h
  obtain ⟨h, h2⟩ := and_bits _ _ h
  obtain ⟨-, h1⟩ := and_bits _ _ h
  intro k l u
  interval_cases k
  · exact ⟨off_at hx hy ofBits_c1 ofBits_s1 h1, on_at hx hy ofBits_c1 ofBits_s1 h2⟩
  · exact ⟨off_at hx hy ofBits_c2 ofBits_s2 h3, on_at hx hy ofBits_c2 ofBits_s2 h4⟩
  · exact ⟨off_at hx hy ofBits_c3 ofBits_s3 h5, on_at hx hy ofBits_c3 ofBits_s3 h6⟩
  · exact ⟨off_at hx hy ofBits_c4 ofBits_s4 h7, on_at hx hy ofBits_c4 ofBits_s4 h8⟩

/-- A number below infinity in size is a real number. -/
theorem real_of {x : EReal} (h : Ideal.cmp .olt (FloatOps.absf (F := Ideal) (φ := .f32) x) (Ideal.ofBits .f32 0x7F800000#32) = 1#1) : x = (x.toReal : EReal) := by
  have t : Ideal.ofBits .f32 0x7F800000#32 = ⊤ := by simp [Ideal.ofBits, Ideal.ieee]
  have q : max x (-x) < ⊤ := by
    by_contra q
    have : Ideal.cmp .olt (FloatOps.absf (F := Ideal) (φ := .f32) x) (Ideal.ofBits .f32 0x7F800000#32) = 0#1 := by
      rw [t]
      show BitVec.ofBool (decide (max x (-x) < ⊤)) = _
      rw [decide_eq_false q]
      rfl
    rw [this] at h
    exact absurd h (by decide)
  refine (EReal.coe_toReal (fun e => ?_) (fun e => ?_)).symm
  · rw [e] at q; exact absurd q (by simp)
  · rw [e] at q; exact absurd q (by simp)

/-- Equal by comparison is equal. -/
theorem eq_of {x y : EReal} (h : Ideal.cmp .oeq x y = 1#1) : x = y := by
  by_contra q
  have : Ideal.cmp .oeq x y = 0#1 := by
    show BitVec.ofBool (decide (x = y)) = _
    rw [decide_eq_false q]
    rfl
  rw [this] at h
  exact absurd h (by decide)

/-- The Sobel table's entries. -/
theorem lit_at : ∀ p q : Fin 3, Ideal.ofBits .f32 (Cert.Pre_clear_of_bin_edges.lit0 ⟨p * 3 + q, by omega⟩) = ((sob p q : ℝ) : EReal) := by
  have z : Ideal.ofBits .f32 0x00000000#32 = ((0 : ℝ) : EReal) := by simp [Ideal.ofBits, Ideal.ieee]
  have o : Ideal.ofBits .f32 0x3F800000#32 = ((1 : ℝ) : EReal) := by
    simp [Ideal.ofBits, Ideal.ieee, -EReal.coe_mul]; norm_num
  have t : Ideal.ofBits .f32 0xC0000000#32 = ((-2 : ℝ) : EReal) := by
    simp [Ideal.ofBits, Ideal.ieee, -EReal.coe_mul]; norm_num
  intro p q
  fin_cases p <;> fin_cases q
  · exact o.trans (by norm_num [sob])
  · exact z.trans (by norm_num [sob])
  · exact ofBits_neg_one.trans (by norm_num [sob])
  · exact ofBits_two.trans (by norm_num [sob])
  · exact z.trans (by norm_num [sob])
  · exact t.trans (by norm_num [sob])
  · exact o.trans (by norm_num [sob])
  · exact z.trans (by norm_num [sob])
  · exact ofBits_neg_one.trans (by norm_num [sob])

/-- The Sobel table. -/
def sobF : FVec Ideal Cert.Pre_clear_of_bin_edges.S3x3 .f32 :=
  fun i => FloatOps.ofBits .f32 (Cert.Pre_clear_of_bin_edges.lit0 (Cert.Pre_clear_of_bin_edges.S3x3.rowMajor i))

/-- The Sobel table's entries, by row and column. -/
theorem sobF_at (i : Cert.Pre_clear_of_bin_edges.S3x3.Idx) : sobF i = ((sob (i 0) (i 1) : ℝ) : EReal) := by
  have e : Cert.Pre_clear_of_bin_edges.S3x3.rowMajor i = (⟨(i 0 : ℕ) * 3 + i 1, by have := (i 0).isLt; have := (i 1).isLt; simp at *; omega⟩ : Fin 9) :=
    Fin.ext (rowMajor_val2 i 3 rfl)
  exact (congrArg (fun n : Fin 9 => Ideal.ofBits .f32 (Cert.Pre_clear_of_bin_edges.lit0 n)) e).trans (lit_at (i 0) (i 1))

/-- Dropping the two leading axes of a weight. -/
theorem flat_at (w : FVec Ideal S1x1x3x3 .f32) (y : Cert.Pre_clear_of_bin_edges.S3x3.Idx) :
    shapeCast Cert.Pre_clear_of_bin_edges.S3x3 w Cert.Pre_clear_of_bin_edges.Facts.shapeCasts_S1x1x3x3_S3x3 y = w (ix4 0 0 (y 0) (y 1)) := by
  pointwise

/-- An index whose two leading axes have one line. -/
theorem idx_w (a : S1x1x3x3.Idx) : (ix4 0 0 (a 2) (a 3) : S1x1x3x3.Idx) = a := by
  funext d
  fin_cases d
  · exact (Subsingleton.elim (α := Fin 1) _ _)
  · exact (Subsingleton.elim (α := Fin 1) _ _)
  · rfl
  · rfl

/-- An index of the pictures, whose second axis has one line. -/
theorem idx_x (a : S64x1x224x224.Idx) : (ix4 (a 0) 0 (a 2) (a 3) : S64x1x224x224.Idx) = a := by
  funext d
  fin_cases d
  · rfl
  · exact (Subsingleton.elim (α := Fin 1) _ _)
  · rfl
  · rfl

/-- An index of the window. -/
theorem idx_k (a : S16x16.Idx) : (ix2 (a 0) (a 1) : S16x16.Idx) = a := by
  funext d
  fin_cases d <;> rfl

/-- The pictures as real numbers, zero outside. -/
def XOf (v : FVec Ideal S64x1x224x224 .f32) (b y x : ℕ) : ℝ :=
  if h : b < 64 ∧ y < 224 ∧ x < 224 then EReal.toReal (v (ix4 ⟨b, h.1⟩ 0 ⟨y, h.2.1⟩ ⟨x, h.2.2⟩)) else 0

/-- The window as real numbers, zero outside. -/
def KOf (v : FVec Ideal S16x16 .f32) (y x : ℕ) : ℝ :=
  if h : y < 16 ∧ x < 16 then EReal.toReal (v (ix2 ⟨y, h.1⟩ ⟨x, h.2⟩)) else 0

/-- The pictures' numbers inside. -/
theorem XOf_at (v : FVec Ideal S64x1x224x224 .f32) (a : S64x1x224x224.Idx) : XOf v (a 0) (a 2) (a 3) = EReal.toReal (v a) := by
  have h : (a 0 : ℕ) < 64 ∧ (a 2 : ℕ) < 224 ∧ (a 3 : ℕ) < 224 := ⟨(a 0).isLt, (a 2).isLt, (a 3).isLt⟩
  unfold XOf
  rw [dif_pos h]
  exact congrArg (fun i => EReal.toReal (v i)) (idx_x a)

/-- The window's numbers inside. -/
theorem KOf_at (v : FVec Ideal S16x16 .f32) (a : S16x16.Idx) : KOf v (a 0) (a 1) = EReal.toReal (v a) := by
  have h : (a 0 : ℕ) < 16 ∧ (a 1 : ℕ) < 16 := ⟨(a 0).isLt, (a 1).isLt⟩
  unfold KOf
  rw [dif_pos h]
  exact congrArg (fun i => EReal.toReal (v i)) (idx_k a)

/-- What the precondition's five parts, each all ones, say of the arguments. -/
theorem decode
    (h : (Cert.Pre_clear_of_bin_edges.fn (F := Ideal) (V0 (Proc.devRef .tc main_arg0)) (V0 (Proc.devRef .tc main_arg1)) (V0 (Proc.devRef .tc main_arg2)) (V0 (Proc.devRef .tc main_arg3))).1 = (fun _ => 1#1)
      ∧ (Cert.Pre_clear_of_bin_edges.fn (F := Ideal) (V0 (Proc.devRef .tc main_arg0)) (V0 (Proc.devRef .tc main_arg1)) (V0 (Proc.devRef .tc main_arg2)) (V0 (Proc.devRef .tc main_arg3))).2.1 = (fun _ => 1#1)
      ∧ (Cert.Pre_clear_of_bin_edges.fn (F := Ideal) (V0 (Proc.devRef .tc main_arg0)) (V0 (Proc.devRef .tc main_arg1)) (V0 (Proc.devRef .tc main_arg2)) (V0 (Proc.devRef .tc main_arg3))).2.2.1 = (fun _ => 1#1)
      ∧ (Cert.Pre_clear_of_bin_edges.fn (F := Ideal) (V0 (Proc.devRef .tc main_arg0)) (V0 (Proc.devRef .tc main_arg1)) (V0 (Proc.devRef .tc main_arg2)) (V0 (Proc.devRef .tc main_arg3))).2.2.2.1 = (fun _ => 1#1)
      ∧ (Cert.Pre_clear_of_bin_edges.fn (F := Ideal) (V0 (Proc.devRef .tc main_arg0)) (V0 (Proc.devRef .tc main_arg1)) (V0 (Proc.devRef .tc main_arg2)) (V0 (Proc.devRef .tc main_arg3))).2.2.2.2 = (fun _ => 1#1)) :
    ∃ (X : ℕ → ℕ → ℕ → ℝ) (K : ℕ → ℕ → ℝ), IsX V0 X ∧ IsW V0 ∧ IsK V0 K
      ∧ ∀ b y x, b < 64 → y < 224 → x < 224 → Clear (GX (X b) y x) (GY (X b) y x) := by
  rw [fn_grad] at h
  obtain ⟨h0, h3, h1, h2, hc⟩ := h
  have hX : IsX V0 (XOf (V0 (Proc.devRef .tc main_arg0))) := fun a =>
    (real_of (congrFun h0 a)).trans (congrArg (fun r : ℝ => (r : EReal)) (XOf_at _ a).symm)
  have hK : IsK V0 (KOf (V0 (Proc.devRef .tc main_arg3))) := fun a =>
    (real_of (congrFun h3 a)).trans (congrArg (fun r : ℝ => (r : EReal)) (KOf_at _ a).symm)
  have hW : IsW V0 := by
    refine ⟨fun a => ?_, fun a => ?_⟩
    · have e := eq_of (congrFun h1 (ix2 (a 2) (a 3)))
      rw [← idx_w a]
      exact ((flat_at _ (ix2 (a 2) (a 3))).symm.trans e).trans (sobF_at _)
    · have e := eq_of (congrFun h2 (ix2 (a 2) (a 3)))
      rw [← idx_w a]
      refine ((flat_at _ (ix2 (a 2) (a 3))).symm.trans e).trans ?_
      exact (show _ = sobF (ix2 (a 3) (a 2)) from by pointwise [sobF]).trans (sobF_at _)
  refine ⟨_, _, hX, hW, hK, fun b y x hb hy hx => ?_⟩
  rw [part5_clear] at hc
  exact clear_at (a := ix3 ⟨b, hb⟩ ⟨y, hy⟩ ⟨x, hx⟩) (gx_at hX hW _) (gy_at hX hW _) (congrFun hc _)

end Hog.Pre
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal

public import proofs.«01_k».proof.Proof.Gen.KernelIdeal.Value
public import proofs.«01_k».proof.Proof.Gen.ReferenceIdeal.Run
public import proofs.«01_k».proof.Proof.Gen.Pre_clear_of_bin_edges
public import Idealize.ShloMosaic.Adequacy
public import Idealize.ShloMosaic.Init
public import proofs.«01_k».proof.Proof.KerRun
public import proofs.«01_k».proof.Proof.Ref
public import proofs.«01_k».proof.Proof.Pre

@[expose] public section

noncomputable section

namespace Cert.Proof

open Idealize.ShloMosaic Idealize.ShloMosaic.StableHlo Idealize.SL.Sem Cert.Kernel

/-- From any memory the reference ends, its arguments unchanged and its counters at zero. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Hog.Ref.run_at m ρ)

/-- The common result: at each picture, bin, row and column the enlarged histogram of the arguments' numbers. -/
def both (X : ℕ → ℕ → ℕ → ℝ) (K : ℕ → ℕ → ℝ) : FVec Ideal Cert.KernelIdeal.S64x9x224x224 .f32 :=
  fun i => ((Hog.out (X (i 0)) K (i 1) (i 2) (i 3) : ℝ) : EReal)

/-- Under the precondition the kernel and the reference end with the same result over the reals. -/
theorem same : Cert.algebraic_KernelIdeal_ReferenceIdeal_pre_clear_of_bin_edges := by
  intro m g m' g' hpre hagree
  have key : ∀ c : Dev Cert.KernelIdeal.nD, ∃ (X : ℕ → ℕ → ℕ → ℝ) (K : ℕ → ℕ → ℝ), Hog.Ref.IsX (launchContents m' c) X
      ∧ Hog.Ref.IsW (launchContents m' c) ∧ Hog.Ref.IsK (launchContents m' c) K
      ∧ ∀ b y x, b < 64 → y < 224 → x < 224 → Hog.Clear (Hog.GX (X b) y x) (Hog.GY (X b) y x) := fun c => by
    refine Hog.Pre.decode ?_
    have h := hpre c
    rw [← (hagree c).1, ← (hagree c).2.1, ← (hagree c).2.2.1, ← (hagree c).2.2.2] at h
    exact h
  choose X K hX hW hK hC using key
  refine ⟨fun c => both (X c) (K c), ?_, ?_⟩
  · refine (θ_run Cert.KernelIdeal.defs _ _).mono (fun r h c => ⟨(h c).1.trans ?_, (h c).2⟩) (Cert.KernelIdeal.Value.run_blocks m g)
    exact Hog.Ker.final m c (fun a => (congrFun (hagree c).1.symm a).trans (hX c a)) (fun a => (congrFun (hagree c).2.2.2.symm a).trans (hK c a)) (hC c)
  · refine (θ_run Cert.ReferenceIdeal.defs _ _).mono (fun r h c => ⟨(h c).1.trans ?_, (h c).2⟩) (Hog.Ref.run_at m' g')
    exact funext fun y => Hog.Ref.res_at (hX c) (hW c) (hK c) y

/-- Every claim of the certificate. -/
theorem claim : Cert.Claim := ⟨Cert.Kernel.Gen.facts, Cert.KernelIdeal.Gen.facts, Cert.ReferenceIdeal.Gen.facts, Cert.Pre_clear_of_bin_edges.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial, trivial, same⟩

end Cert.Proof

end
